-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 1024, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![2, 256, 512]⟩ ⟨3, ![2, 1024, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S2x256x512 1 × IVec S512x256 1 × IVec S2x256x4x64 1 :=
  let main_v0 : FVec F S2x256x512 .f32 := (extf .f32 · bitsLt_bf16_f32) main_arg0
  let main_v1 : FVec F S512x256 .f32 := (extf .f32 · bitsLt_bf16_f32) main_arg1
  let main_v2 : FVec F S2x256x4x64 .f32 := (extf .f32 · bitsLt_bf16_f32) main_arg2
  let main_v3 : FVec F S2x256x512 .f32 := Host.absf main_v0
  let main_cst : FVec F S_ .f32 := constant S_ .f32 0x7F800000#32
  let main_v4 : FVec F S2x256x512 .f32 := broadcastInDim S2x256x512 ![] bcast_S_S2x256x512 main_cst
  let main_v5 : IVec S2x256x512 1 := cmpf .olt main_v3 main_v4
  let main_v6 : FVec F S512x256 .f32 := Host.absf main_v1
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_v9 : FVec F S2x256x4x64 .f32 := Host.absf main_v2
  let main_cst_1 : FVec F S_ .f32 := constant S_ .f32 0x7F800000#32
  let main_v10 : FVec F S2x256x4x64 .f32 := broadcastInDim S2x256x4x64 ![] bcast_S_S2x256x4x64 main_cst_1
  let main_v11 : IVec S2x256x4x64 1 := cmpf .olt main_v9 main_v10
  (main_v5, main_v8, main_v11)
-- ==== Pre_finite_scores_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bitsLt_bf16_f32 : FTy.bits .bf16 < FTy.bits .f32
  bcast_S_S2x1024x512 : S_.BroadcastsInDim S2x1024x512 (![] : Fin 0 → Fin S2x1024x512.rank)
  bcast_S_S512x256 : S_.BroadcastsInDim S512x256 (![] : Fin 0 → Fin S512x256.rank)
  bcast_S_S2x1024x4x64 : S_.BroadcastsInDim S2x1024x4x64 (![] : Fin 0 → Fin S2x1024x4x64.rank)

variable [Facts]

def fn {F : FTy → Type} [FloatOps F] (main_arg0 : FVec F S2x1024x512 .bf16) (main_arg1 : FVec F S512x256 .bf16) (main_arg2 : FVec F S2x1024x4x64 .bf16) (main_arg3 : FVec F S2x1024x4x64 .bf16) (main_arg4 : FVec F S256x512 .bf16) : IVec S2x1024x512 1 × IVec S512x256 1 × IVec S2x1024x4x64 1 :=
  let main_v0 : FVec F S2x1024x512 .f32 := (extf .f32 · bitsLt_bf16_f32) main_arg0
  let main_v1 : FVec F S512x256 .f32 := (extf .f32 · bitsLt_bf16_f32) main_arg1
  let main_v2 : FVec F S2x1024x4x64 .f32 := (extf .f32 · bitsLt_bf16_f32) main_arg2
  let main_v3 : FVec F S2x1024x512 .f32 := Host.absf main_v0
  let main_cst : FVec F S_ .f32 := constant S_ .f32 0x7F800000#32
  let main_v4 : FVec F S2x1024x512 .f32 := broadcastInDim S2x1024x512 ![] bcast_S_S2x1024x512 main_cst
  let main_v5 : IVec S2x1024x512 1 := cmpf .olt main_v3 main_v4
  let main_v6 : FVec F S512x256 .f32 := Host.absf main_v1
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_v9 : FVec F S2x1024x4x64 .f32 := Host.absf main_v2
  let main_cst_1 : FVec F S_ .f32 := constant S_ .f32 0x7F800000#32
  let main_v10 : FVec F S2x1024x4x64 .f32 := broadcastInDim S2x1024x4x64 ![] bcast_S_S2x1024x4x64 main_cst_1
  let main_v11 : IVec S2x1024x4x64 1 := cmpf .olt main_v9 main_v10
  (main_v5, main_v8, main_v11)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x256 : Shape := ⟨3, ![2, 256, 256]⟩
abbrev S4x2x256x256 : Shape := ⟨4, ![4, 2, 256, 256]⟩
abbrev S3 : Shape := ⟨1, ![3]⟩
abbrev S1x256x256 : Shape := ⟨3, ![1, 256, 256]⟩
abbrev S256x256 : Shape := ⟨2, ![256, 256]⟩
abbrev S1x1x256x256 : Shape := ⟨4, ![1, 1, 256, 256]⟩
abbrev S_ : Shape := ⟨0, ![]⟩
abbrev S1 : Shape := ⟨1, ![1]⟩
abbrev S1x2x256x256 : Shape := ⟨4, ![1, 2, 256, 256]⟩
abbrev S1x256x512 : Shape := ⟨3, ![1, 256, 512]⟩
abbrev S256x1 : Shape := ⟨2, ![256, 1]⟩
abbrev S256x64 : Shape := ⟨2, ![256, 64]⟩
abbrev S256 : Shape := ⟨1, ![256]⟩

abbrev nBuf : Space → Nat
  | .hbm => 8
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x256, .bf16⟩
  | .hbm, ⟨6, _⟩ => ⟨S2x256x256, .bf16⟩
  | .hbm, ⟨7, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S2x256x512, .f32⟩
  | .local _ .vmem, ⟨6, _⟩ => ⟨S4x2x256x256, .fp8e4m3⟩
  | .local _ .vmem, ⟨7, _⟩ => ⟨S4x2x256x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : Index := Scalar.indexCast v2
  let c0_2 : Index := 0#32
  let c0_3 : Index := 0#32
  let c0_4 : Index := 0#32
  ![v6.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : Index := Scalar.indexCast v2
  let c1_13 : Index := 1#32
  let c0_14 : Index := 0#32
  let c0_15 : Index := 0#32
  ![v19.toNat, 1, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v30 : BitVec 32 := Scalar.addi v2 c1_i32_22
  let c4_i32_23 : BitVec 32 := 4#32
  let v31 : BitVec 32 := Scalar.remsi v30 c4_i32_23
  let c1_i32_25 : BitVec 32 := 1#32
  let v32 : BitVec 32 := Scalar.muli v31 c1_i32_25
  let v33 : BitVec 32 := Scalar.addi c0_i32 v32
  v33.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v34 : BitVec 32 := Scalar.addi v2 c2_i32
  let c4_i32_26 : BitVec 32 := 4#32
  let v35 : BitVec 32 := Scalar.remsi v34 c4_i32_26
  let c1_i32_28 : BitVec 32 := 1#32
  let v36 : BitVec 32 := Scalar.muli v35 c1_i32_28
  let v37 : BitVec 32 := Scalar.addi c0_i32_29 v36
  v37.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v38 : BitVec 32 := Scalar.addi v2 c3_i32
  let c4_i32_30 : BitVec 32 := 4#32
  let v39 : BitVec 32 := Scalar.remsi v38 c4_i32_30
  let c1_i32_32 : BitVec 32 := 1#32
  let v40 : BitVec 32 := Scalar.muli v39 c1_i32_32
  let v41 : BitVec 32 := Scalar.addi c0_i32_33 v40
  v41.toNat
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_41 : BitVec 32 := 0#32
  let c0_i32_42 : BitVec 32 := 0#32
  let c0_i32_43 : BitVec 32 := 0#32
  ![v2.toNat, 0, 0, 0]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v42 : BitVec 32 := Scalar.addi v2 c1_i32_35
  let c4_i32_36 : BitVec 32 := 4#32
  let v43 : BitVec 32 := Scalar.remsi v42 c4_i32_36
  let c1_i32_39 : BitVec 32 := 1#32
  let v44 : BitVec 32 := Scalar.muli v43 c1_i32_39
  let v45 : BitVec 32 := Scalar.addi c0_i32_40 v44
  v45.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_47 : BitVec 32 := 2#32
  let v54 : BitVec 32 := Scalar.addi v2 c2_i32_47
  let c4_i32_48 : BitVec 32 := 4#32
  let v55 : BitVec 32 := Scalar.remsi v54 c4_i32_48
  let c1_i32_51 : BitVec 32 := 1#32
  let v56 : BitVec 32 := Scalar.muli v55 c1_i32_51
  let v57 : BitVec 32 := Scalar.addi c0_i32_52 v56
  v57.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v66 : BitVec 32 := Scalar.addi v2 c3_i32_59
  let c4_i32_60 : BitVec 32 := 4#32
  let v67 : BitVec 32 := Scalar.remsi v66 c4_i32_60
  let c1_i32_63 : BitVec 32 := 1#32
  let v68 : BitVec 32 := Scalar.muli v67 c1_i32_63
  let v69 : BitVec 32 := Scalar.addi c0_i32_64 v68
  v69.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v78 : BitVec 32 := Scalar.addi v2 c1_i32_71
  let c4_i32_72 : BitVec 32 := 4#32
  let v79 : BitVec 32 := Scalar.remsi v78 c4_i32_72
  let c1_i32_75 : BitVec 32 := 1#32
  let v80 : BitVec 32 := Scalar.muli v79 c1_i32_75
  let v81 : BitVec 32 := Scalar.addi c0_i32_76 v80
  v81.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_83 : BitVec 32 := 2#32
  let v90 : BitVec 32 := Scalar.addi v2 c2_i32_83
  let c4_i32_84 : BitVec 32 := 4#32
  let v91 : BitVec 32 := Scalar.remsi v90 c4_i32_84
  let c1_i32_87 : BitVec 32 := 1#32
  let v92 : BitVec 32 := Scalar.muli v91 c1_i32_87
  let v93 : BitVec 32 := Scalar.addi c0_i32_88 v92
  v93.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v102 : BitVec 32 := Scalar.addi v2 c3_i32_95
  let c4_i32_96 : BitVec 32 := 4#32
  let v103 : BitVec 32 := Scalar.remsi v102 c4_i32_96
  let c1_i32_99 : BitVec 32 := 1#32
  let v104 : BitVec 32 := Scalar.muli v103 c1_i32_99
  let v105 : BitVec 32 := Scalar.addi c0_i32_100 v104
  v105.toNat
def k0_off4 (d0 : Dev nD) (c1_i32_190 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v318 : BitVec 32 := Scalar.subi v2 c1_i32_190
  let c4_i32_191 : BitVec 32 := 4#32
  let v319 : BitVec 32 := Scalar.addi v318 c4_i32_191
  let c4_i32_192 : BitVec 32 := 4#32
  let v320 : BitVec 32 := Scalar.remsi v319 c4_i32_192
  let c0_i32_197 : BitVec 32 := 0#32
  let c0_i32_198 : BitVec 32 := 0#32
  let c0_i32_199 : BitVec 32 := 0#32
  ![v320.toNat, 0, 0, 0]
def k0_off5 (d0 : Dev nD) (c1_i32_190 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v318 : BitVec 32 := Scalar.subi v2 c1_i32_190
  let c4_i32_191 : BitVec 32 := 4#32
  let v319 : BitVec 32 := Scalar.addi v318 c4_i32_191
  let c4_i32_192 : BitVec 32 := 4#32
  let v320 : BitVec 32 := Scalar.remsi v319 c4_i32_192
  let v329 : Index := Scalar.indexCast v320
  let c0_203 : Index := 0#32
  let c0_204 : Index := 0#32
  let c0_205 : Index := 0#32
  ![v329.toNat, 0, 0, 0]
def k0_off6 (d0 : Dev nD) (c1_i32_190 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v318 : BitVec 32 := Scalar.subi v2 c1_i32_190
  let c4_i32_191 : BitVec 32 := 4#32
  let v319 : BitVec 32 := Scalar.addi v318 c4_i32_191
  let c4_i32_192 : BitVec 32 := 4#32
  let v320 : BitVec 32 := Scalar.remsi v319 c4_i32_192
  let v333 : Index := Scalar.indexCast v320
  let c1_206 : Index := 1#32
  let c0_207 : Index := 0#32
  let c0_208 : Index := 0#32
  ![v333.toNat, 1, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S2x1024x256 : Shape := ⟨3, ![2, 1024, 256]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 128
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512x256, .bf16⟩
  | .hbm, ⟨2, _⟩ => ⟨S2x1024x4x64, .bf16⟩
  | .hbm, ⟨3, _⟩ => ⟨S2x1024x4x64, .bf16⟩
  | .hbm, ⟨4, _⟩ => ⟨S256x512, .bf16⟩
  | .hbm, ⟨5, _⟩ => ⟨S2x1024x512, .f32⟩
  | .hbm, ⟨6, _⟩ => ⟨S512x256, .f32⟩
  | .hbm, ⟨7, _⟩ => ⟨S2x1024x4x64, .f32⟩
  | .hbm, ⟨8, _⟩ => ⟨S2x1024x4x64, .f32⟩
  | .hbm, ⟨9, _⟩ => ⟨S256x512, .f32⟩
  | .hbm, ⟨10, _⟩ => ⟨S2x1024x256, .f32⟩
  | .hbm, ⟨11, _⟩ => ⟨S2x1024x4x64, .f32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1x1024, .i32⟩
  | .hbm, ⟨52, _⟩ => ⟨S1024x1024, .i32⟩
  | .hbm, ⟨53, _⟩ => ⟨S1024x1024, .i32⟩
  | .hbm, ⟨54, _⟩ => ⟨S1024x1024, .i1⟩
  | .hbm, ⟨55, _⟩ => ⟨S_, .i32⟩
  | .hbm, ⟨56, _⟩ => ⟨S1x1024, .i32⟩
  | .hbm, ⟨57, _⟩ => ⟨S1x1024, .i1⟩
  | .hbm, ⟨58, _⟩ => ⟨S1024x1024, .i1⟩
  | .hbm, ⟨59, _⟩ => ⟨S1024x1024, .i1⟩
  | .hbm, ⟨60, _⟩ => ⟨S1024x1024, .i32⟩
  | .hbm, ⟨61, _⟩ => ⟨S1024x1024, .i32⟩
  | .hbm, ⟨62, _⟩ => ⟨S1024x1024, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S1024x1024, .i32⟩
  | .hbm, ⟨70, _⟩ => ⟨S1024x1024, .i32⟩
  | .hbm, ⟨71, _⟩ => ⟨S_, .i32⟩
  | .hbm, ⟨72, _⟩ => ⟨S1024x1024, .i32⟩
  | .hbm, ⟨73, _⟩ => ⟨S1024x1024, .i1⟩
  | .hbm, ⟨74, _⟩ => ⟨S_, .i32⟩
  | .hbm, ⟨75, _⟩ => ⟨S1024x1024, .i32⟩
  | .hbm, ⟨76, _⟩ => ⟨S1024x1024, .i1⟩
  | .hbm, ⟨77, _⟩ => ⟨S_, .i32⟩
  | .hbm, ⟨78, _⟩ => ⟨S_, .i1⟩
  | .hbm, ⟨79, _⟩ => ⟨S1024x1024, .i1⟩
  | .hbm, ⟨80, _⟩ => ⟨S1024x1024, .i1⟩
  | .hbm, ⟨81, _⟩ => ⟨S1024x1024, .i1⟩
  | .hbm, ⟨82, _⟩ => ⟨S1024x1024, .i32⟩
  | .hbm, ⟨83, _⟩ => ⟨S1024x1024, .i32⟩
  | .hbm, ⟨84, _⟩ => ⟨S1024x1024, .i32⟩
  | .hbm, ⟨85, _⟩ => ⟨S_, .i32⟩
  | .hbm, ⟨86, _⟩ => ⟨S1024x1024, .i32⟩
  | .hbm, ⟨87, _⟩ => ⟨S1024x1024, .i1⟩
  | .hbm, ⟨88, _⟩ => ⟨S1024x1024, .i1⟩
  | .hbm, ⟨89, _⟩ => ⟨S2x4x1024x1024, .f32⟩
  | .hbm, ⟨90, _⟩ => ⟨S_, .f32⟩
  | .hbm, ⟨91, _⟩ => ⟨S2x4x1024x1024, .f32⟩
  | .hbm, ⟨92, _⟩ => ⟨S2x4x1024x1024, .f32⟩
  | .hbm, ⟨93, _⟩ => ⟨S1x1x1024x1024, .i1⟩
  | .hbm, ⟨94, _⟩ => ⟨S_, .f32⟩
  | .hbm, ⟨95, _⟩ => ⟨S_, .f32⟩
  | .hbm, ⟨96, _⟩ => ⟨S2x4x1024x1024, .i1⟩
  | .hbm, ⟨97, _⟩ => ⟨S2x4x1024x1024, .f32⟩
  | .hbm, ⟨98, _⟩ => ⟨S2x4x1024x1024, .f32⟩
  | .hbm, ⟨99, _⟩ => ⟨S_, .f32⟩
  | .hbm, ⟨100, _⟩ => ⟨S2x4x1024, .f32⟩
  | .hbm, ⟨101, _⟩ => ⟨S2x4x1024x1, .f32⟩
  | .hbm, ⟨102, _⟩ => ⟨S2x4x1024x1024, .f32⟩
  | .hbm, ⟨103, _⟩ => ⟨S2x4x1024x1024, .f32⟩
  | .hbm, ⟨104, _⟩ => ⟨S2x4x1024x1024, .f32⟩
  | .hbm, ⟨105, _⟩ => ⟨S_, .i1⟩
  | .hbm, ⟨106, _⟩ => ⟨S1024, .i1⟩
  | .hbm, ⟨107, _⟩ => ⟨S1x1x1024x1, .i1⟩
  | .hbm, ⟨108, _⟩ => ⟨S_, .f32⟩
  | .hbm, ⟨109, _⟩ => ⟨S2x4x1024, .f32⟩
  | .hbm, ⟨110, _⟩ => ⟨S2x4x1024x1, .f32⟩
  | .hbm, ⟨111, _⟩ => ⟨S_, .f32⟩
  | .hbm, ⟨112, _⟩ => ⟨S_, .f32⟩
  | .hbm, ⟨113, _⟩ => ⟨S2x4x1024x1, .i1⟩
  | .hbm, ⟨114, _⟩ => ⟨S2x4x1024x1, .f32⟩
  | .hbm, ⟨115, _⟩ => ⟨S2x4x1024x1, .f32⟩
  | .hbm, ⟨116, _⟩ => ⟨S2x4x1024x1024, .f32⟩
  | .hbm, ⟨117, _⟩ => ⟨S2x4x1024x1024, .f32⟩
  | .hbm, ⟨118, _⟩ => ⟨S1x1x1024x1, .i1⟩
  | .hbm, ⟨119, _⟩ => ⟨S_, .f32⟩
  | .hbm, ⟨120, _⟩ => ⟨S_, .f32⟩
  | .hbm, ⟨121, _⟩ => ⟨S2x4x1024x1024, .i1⟩
  | .hbm, ⟨122, _⟩ => ⟨S2x4x1024x1024, .f32⟩
  | .hbm, ⟨123, _⟩ => ⟨S2x4x1024x1024, .f32⟩
  | .hbm, ⟨124, _⟩ => ⟨S2x4x64x1024, .f32⟩
  | .hbm, ⟨125, _⟩ => ⟨S2x1024x4x64, .f32⟩
  | .hbm, ⟨126, _⟩ => ⟨S2x1024x256, .f32⟩
  | .hbm, ⟨127, _⟩ => ⟨S2x1024x512, .f32⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Vals.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Pointwise.Index

@[expose] public section

set_option maxRecDepth 16384

noncomputable section

namespace Cert.KProof

open Cert.KernelIdeal Cert.KernelIdeal.Gen
open Idealize.ShloMosaic Idealize.ShloMosaic.TcCoe

variable {F : FTy → Type} [FloatOps F]
/-- A memory of the four devices. -/
abbrev Mem (F : FTy → Type) : Type := (ℓ : Loc nD τ sig) → Buf (Elt F) ℓ

/-! ## The vectors of one device's body, named as the program names them

Each is what the statement of the same name computes on device `c` when the five argument blocks are those of the memory `m`
and the slots received from the peers hold the peers' own stores. -/

/-- What one device forwards: its place among the four, as the kernel computes it. -/
def v2 (c : Dev nD) : BitVec 32 := Scalar.remsi (Scalar.divsi (Dev.word c) 1#32) 4#32

/-- The staged blocks of the five arguments. -/
def X0 (m : Mem F) (c : Dev nD) : cc0_stg0_0.ty.Contents (Elt F) := iblk m c 0 t0_0
def X1 (m : Mem F) (c : Dev nD) : cc0_stg1_0.ty.Contents (Elt F) := iblk m c 1 t0_0
def X2 (m : Mem F) (c : Dev nD) : cc0_stg2_0.ty.Contents (Elt F) := iblk m c 2 t0_0
def X3 (m : Mem F) (c : Dev nD) : cc0_stg3_0.ty.Contents (Elt F) := iblk m c 3 t0_0
def X4 (m : Mem F) (c : Dev nD) : cc0_stg4_0.ty.Contents (Elt F) := iblk m c 4 t0_0

/-! part 1 -/

def v3 (m : Mem F) (c : Dev nD) : Vec F S1x256x256 .bf16 := ((Memref.whole cc0_stg2_0).access (Rect.unit (s := S2x256x256) ![0, 0, 0] S1x256x256.size inb_S2x256x256_S1x256x256_0_0_0)).read (Elt F) (X2 m c)
def v10 (m : Mem F) (c : Dev nD) : Vec F S1x256x256 .bf16 := ((Memref.whole cc0_stg3_0).access (Rect.unit (s := S2x256x256) ![0, 0, 0] S1x256x256.size inb_S2x256x256_S1x256x256_0_0_0)).read (Elt F) (X3 m c)
def v16 (m : Mem F) (c : Dev nD) : Vec F S1x256x256 .bf16 := ((Memref.whole cc0_stg2_0).access (Rect.unit (s := S2x256x256) ![1, 0, 0] S1x256x256.size inb_S2x256x256_S1x256x256_1_0_0)).read (Elt F) (X2 m c)
def v23 (m : Mem F) (c : Dev nD) : Vec F S1x256x256 .bf16 := ((Memref.whole cc0_stg3_0).access (Rect.unit (s := S2x256x256) ![1, 0, 0] S1x256x256.size inb_S2x256x256_S1x256x256_1_0_0)).read (Elt F) (X3 m c)

/-- A slot row's index with the slot and batch coordinates dropped. -/
def inSlot (i : S4x2x256x256.Idx) : S1x1x256x256.Idx := ix4 (0 : Fin 1) (0 : Fin 1) (i 2 : Fin 256) (i 3 : Fin 256)

/-- What device `c` stores in its own slot of the key buffer, written at every slot. -/
def Kown (m : Mem F) (c : Dev nD) : cc0_scratch0.ty.Contents (Elt F) := fun i : S4x2x256x256.Idx =>
  if (i 1).val = 0 then k0_pay1 (v3 m c) (inSlot i) else k0_pay3 (v16 m c) (inSlot i)
/-- The same of the value buffer. -/
def Vown (m : Mem F) (c : Dev nD) : cc0_scratch1.ty.Contents (Elt F) := fun i : S4x2x256x256.Idx =>
  if (i 1).val = 0 then k0_pay2 (v10 m c) (inSlot i) else k0_pay4 (v23 m c) (inSlot i)

/-- The device `j + 1` places on, and the one `j + 1` places back. -/
def fwd (j : Fin 3) (c : Dev nD) : Dev nD := ⟨(c.val + j.val + 1) % 4, Nat.mod_lt _ (by decide)⟩
def bwd (j : Fin 3) (c : Dev nD) : Dev nD := ⟨(c.val + 3 - j.val) % 4, Nat.mod_lt _ (by decide)⟩

/-! part 2 -/

/-! part 3 -/

/-! part 4 -/

/-! part 5 -/

def v130 (m : Mem F) (c : Dev nD) : BitVec 32 := Scalar.muli (v2 c) 4#32
def v114 (m : Mem F) (c : Dev nD) : Vec F S512x256 .bf16 := ((Memref.whole cc0_stg1_0).access (Rect.unit (s := S512x256) ![0, 0] S512x256.size inb_S512x256_S512x256_0_0)).read (Elt F) (X1 m c)
def v116 (m : Mem F) (c : Dev nD) : Vec F S256x512 .bf16 := ((Memref.whole cc0_stg4_0).access (Rect.unit (s := S256x512) ![0, 0] S256x512.size inb_S256x512_S256x512_0_0)).read (Elt F) (X4 m c)
def v118 (m : Mem F) (c : Dev nD) : Vec F S1x256x512 .bf16 := ((Memref.whole cc0_stg0_0).access (Rect.unit (s := S2x256x512) ![0, 0, 0] S1x256x512.size inb_S2x256x512_S1x256x512_0_0_0)).read (Elt F) (X0 m c)
def v124 (m : Mem F) (c : Dev nD) : Vec F S1x256x512 .bf16 := ((Memref.whole cc0_stg0_0).access (Rect.unit (s := S2x256x512) ![1, 0, 0] S1x256x512.size inb_S2x256x512_S1x256x512_1_0_0)).read (Elt F) (X0 m c)
def v117 (m : Mem F) (c : Dev nD) : FVec F S256x512 .bf16 := k0_pay6 (v116 m c)
def v123 (m : Mem F) (c : Dev nD) : FVec F S256x256 .bf16 := k0_pay7 (v114 m c) (v118 m c)
def v129 (m : Mem F) (c : Dev nD) : FVec F S256x256 .bf16 := k0_pay8 (v114 m c) (v124 m c)
def v133 (m : Mem F) (c : Dev nD) : IVec S256x256 32 := k0_pay9
def v147 (m : Mem F) (c : Dev nD) : IVec S256x256 1 := k0_pay10
def v149 (m : Mem F) (c : Dev nD) : IVec S256x256 32 := k0_pay11

/-! part 6 -/

def v157 (m : Mem F) (c : Dev nD) : IVec S256x256 32 := k0_pay12 (v130 m c) (v133 m c) (v147 m c) (v149 m c)
def v182 (m : Mem F) (c : Dev nD) : IVec S256x256 32 := k0_pay13
def v183 (m : Mem F) (c : Dev nD) : FVec F S256x1 .f32 := k0_pay14 (F := F)
def v184 (m : Mem F) (c : Dev nD) : FVec F S256x1 .f32 := k0_pay15 (F := F)
def v185 (m : Mem F) (c : Dev nD) : FVec F S256x1 .f32 := k0_pay16 (F := F)
def v186 (m : Mem F) (c : Dev nD) : FVec F S256x1 .f32 := k0_pay17 (F := F)
def v187 (m : Mem F) (c : Dev nD) : FVec F S256x1 .f32 := k0_pay18 (F := F)
def v188 (m : Mem F) (c : Dev nD) : FVec F S256x1 .f32 := k0_pay19 (F := F)
def v189 (m : Mem F) (c : Dev nD) : FVec F S256x1 .f32 := k0_pay20 (F := F)
def v190 (m : Mem F) (c : Dev nD) : FVec F S256x1 .f32 := k0_pay21 (F := F)
def v191 (m : Mem F) (c : Dev nD) : FVec F S256x64 .f32 := k0_pay22 (F := F)

/-! part 7 -/

def v199 (m : Mem F) (c : Dev nD) : Vec F S1x256x256 .bf16 := ((Memref.whole cc0_stg2_0).access (Rect.unit (s := S2x256x256) ![0, 0, 0] S1x256x256.size inb_S2x256x256_S1x256x256_0_0_0)).read (Elt F) (X2 m c)
def v201 (m : Mem F) (c : Dev nD) : Vec F S1x256x256 .bf16 := ((Memref.whole cc0_stg2_0).access (Rect.unit (s := S2x256x256) ![1, 0, 0] S1x256x256.size inb_S2x256x256_S1x256x256_1_0_0)).read (Elt F) (X2 m c)
def v192 (m : Mem F) (c : Dev nD) : FVec F S256x64 .f32 := k0_pay23 (F := F)
def v193 (m : Mem F) (c : Dev nD) : FVec F S256x64 .f32 := k0_pay24 (F := F)
def v194 (m : Mem F) (c : Dev nD) : FVec F S256x64 .f32 := k0_pay25 (F := F)
def v195 (m : Mem F) (c : Dev nD) : FVec F S256x64 .f32 := k0_pay26 (F := F)
def v196 (m : Mem F) (c : Dev nD) : FVec F S256x64 .f32 := k0_pay27 (F := F)
def v197 (m : Mem F) (c : Dev nD) : FVec F S256x64 .f32 := k0_pay28 (F := F)
def v198 (m : Mem F) (c : Dev nD) : FVec F S256x64 .f32 := k0_pay29 (F := F)
def v200 (m : Mem F) (c : Dev nD) : FVec F S256x256 .bf16 := k0_pay30 (v199 m c)
def v202 (m : Mem F) (c : Dev nD) : FVec F S256x256 .bf16 := k0_pay31 (v201 m c)
def v217 (m : Mem F) (c : Dev nD) : FVec F S256x256 .f32 := k0_pay32 (F := F) (v2 c) (v157 m c) (v182 m c)
def v225 (m : Mem F) (c : Dev nD) : FVec F S256x1 .f32 := k0_pay34 (v2 c) (v123 m c) (v157 m c) (v182 m c) (v183 m c) (v199 m c)
def v226 (m : Mem F) (c : Dev nD) : FVec F S256x256 .bf16 := k0_pay35 (v2 c) (v123 m c) (v157 m c) (v182 m c) (v199 m c)
def v231 (m : Mem F) (c : Dev nD) : FVec F S256x256 .f32 := k0_pay36 (v2 c) (v123 m c) (v157 m c) (v182 m c) (v199 m c)

/-! part 8 -/

def v234 (m : Mem F) (c : Dev nD) : FVec F S256x1 .f32 := k0_pay37 (v184 m c) (v231 m c)
def v235 (m : Mem F) (c : Dev nD) : FVec F S256x256 .bf16 := k0_pay38 (v231 m c)
def v243 (m : Mem F) (c : Dev nD) : FVec F S256x1 .f32 := k0_pay40 (v123 m c) (v185 m c) (v200 m c) (v217 m c)
def v244 (m : Mem F) (c : Dev nD) : FVec F S256x256 .bf16 := k0_pay41 (v123 m c) (v200 m c) (v217 m c)
def v252 (m : Mem F) (c : Dev nD) : FVec F S256x1 .f32 := k0_pay43 (v123 m c) (v186 m c) (v200 m c) (v217 m c)
def v253 (m : Mem F) (c : Dev nD) : FVec F S256x256 .bf16 := k0_pay44 (v123 m c) (v200 m c) (v217 m c)
def v261 (m : Mem F) (c : Dev nD) : FVec F S256x1 .f32 := k0_pay46 (v129 m c) (v187 m c) (v202 m c) (v217 m c)
def v262 (m : Mem F) (c : Dev nD) : FVec F S256x256 .bf16 := k0_pay47 (v129 m c) (v202 m c) (v217 m c)
def v270 (m : Mem F) (c : Dev nD) : FVec F S256x1 .f32 := k0_pay49 (v129 m c) (v188 m c) (v202 m c) (v217 m c)
def v271 (m : Mem F) (c : Dev nD) : FVec F S256x256 .bf16 := k0_pay50 (v129 m c) (v202 m c) (v217 m c)
def v279 (m : Mem F) (c : Dev nD) : FVec F S256x1 .f32 := k0_pay52 (v129 m c) (v189 m c) (v202 m c) (v217 m c)
def v280 (m : Mem F) (c : Dev nD) : FVec F S256x256 .bf16 := k0_pay53 (v129 m c) (v202 m c) (v217 m c)

/-! part 9 -/

def v318 (m : Mem F) (c : Dev nD) : BitVec 32 := Scalar.subi (v2 c) 1#32
def v319 (m : Mem F) (c : Dev nD) : BitVec 32 := Scalar.addi (v318 m c) 4#32
def v320 (m : Mem F) (c : Dev nD) : BitVec 32 := Scalar.remsi (v319 m c) 4#32
def v290 (m : Mem F) (c : Dev nD) : Vec F S1x256x256 .bf16 := ((Memref.whole cc0_stg3_0).access (Rect.unit (s := S2x256x256) ![0, 0, 0] S1x256x256.size inb_S2x256x256_S1x256x256_0_0_0)).read (Elt F) (X3 m c)
def v292 (m : Mem F) (c : Dev nD) : Vec F S1x256x256 .bf16 := ((Memref.whole cc0_stg3_0).access (Rect.unit (s := S2x256x256) ![1, 0, 0] S1x256x256.size inb_S2x256x256_S1x256x256_1_0_0)).read (Elt F) (X3 m c)
def v288 (m : Mem F) (c : Dev nD) : FVec F S256x1 .f32 := k0_pay55 (v129 m c) (v190 m c) (v202 m c) (v217 m c)
def v296 (m : Mem F) (c : Dev nD) : FVec F S256x64 .f32 := k0_pay58 (v191 m c) (v226 m c) (v290 m c)
def v299 (m : Mem F) (c : Dev nD) : FVec F S256x64 .f32 := k0_pay59 (v192 m c) (v235 m c) (v290 m c)
def v302 (m : Mem F) (c : Dev nD) : FVec F S256x64 .f32 := k0_pay60 (v193 m c) (v244 m c) (v290 m c)
def v305 (m : Mem F) (c : Dev nD) : FVec F S256x64 .f32 := k0_pay61 (v194 m c) (v253 m c) (v290 m c)
def v308 (m : Mem F) (c : Dev nD) : FVec F S256x64 .f32 := k0_pay62 (v195 m c) (v262 m c) (v292 m c)
def v311 (m : Mem F) (c : Dev nD) : FVec F S256x64 .f32 := k0_pay63 (v196 m c) (v271 m c) (v292 m c)
def v314 (m : Mem F) (c : Dev nD) : FVec F S256x64 .f32 := k0_pay64 (v197 m c) (v280 m c) (v292 m c)
def v317 (m : Mem F) (c : Dev nD) : FVec F S256x64 .f32 := k0_pay65 (v129 m c) (v198 m c) (v202 m c) (v217 m c) (v292 m c)

/-! part 10 -/

def v330 (m : Mem F) (c : Dev nD) : Vec F S1x1x256x256 .fp8e4m3 := ((Memref.whole cc0_scratch0).access (Rect.unit (s := S4x2x256x256) (k0_off5 c 1#32) S1x1x256x256.size (k0_off5_inb c 0))).read (Elt F) (Kown m (bwd 0 c))
def v334 (m : Mem F) (c : Dev nD) : Vec F S1x1x256x256 .fp8e4m3 := ((Memref.whole cc0_scratch0).access (Rect.unit (s := S4x2x256x256) (k0_off6 c 1#32) S1x1x256x256.size (k0_off6_inb c 0))).read (Elt F) (Kown m (bwd 0 c))
def v332 (m : Mem F) (c : Dev nD) : FVec F S256x256 .bf16 := k0_pay66 (v330 m c)
def v336 (m : Mem F) (c : Dev nD) : FVec F S256x256 .bf16 := k0_pay67 (v334 m c)
def v351 (m : Mem F) (c : Dev nD) : FVec F S256x256 .f32 := k0_pay68 (F := F) (v157 m c) (v182 m c) (v320 m c)
def v356 (m : Mem F) (c : Dev nD) : FVec F S256x256 .f32 := k0_pay69 (v123 m c) (v157 m c) (v182 m c) (v320 m c) (v330 m c)
def v358 (m : Mem F) (c : Dev nD) : FVec F S256x1 .f32 := k0_pay70 (v123 m c) (v157 m c) (v182 m c) (v320 m c) (v330 m c)

/-! part 11 -/

def v359 (m : Mem F) (c : Dev nD) : FVec F S256x1 .f32 := k0_pay71 (v225 m c) (v358 m c)
def v360 (m : Mem F) (c : Dev nD) : FVec F S256x256 .bf16 := k0_pay72 (v356 m c)
def v368 (m : Mem F) (c : Dev nD) : FVec F S256x1 .f32 := k0_pay74 (v123 m c) (v234 m c) (v332 m c) (v351 m c)
def v369 (m : Mem F) (c : Dev nD) : FVec F S256x256 .bf16 := k0_pay75 (v123 m c) (v332 m c) (v351 m c)
def v377 (m : Mem F) (c : Dev nD) : FVec F S256x1 .f32 := k0_pay77 (v123 m c) (v243 m c) (v332 m c) (v351 m c)
def v378 (m : Mem F) (c : Dev nD) : FVec F S256x256 .bf16 := k0_pay78 (v123 m c) (v332 m c) (v351 m c)
def v386 (m : Mem F) (c : Dev nD) : FVec F S256x1 .f32 := k0_pay80 (v123 m c) (v252 m c) (v332 m c) (v351 m c)
def v387 (m : Mem F) (c : Dev nD) : FVec F S256x256 .bf16 := k0_pay81 (v123 m c) (v332 m c) (v351 m c)
def v395 (m : Mem F) (c : Dev nD) : FVec F S256x1 .f32 := k0_pay83 (v129 m c) (v261 m c) (v336 m c) (v351 m c)
def v396 (m : Mem F) (c : Dev nD) : FVec F S256x256 .bf16 := k0_pay84 (v129 m c) (v336 m c) (v351 m c)
def v404 (m : Mem F) (c : Dev nD) : FVec F S256x1 .f32 := k0_pay86 (v129 m c) (v270 m c) (v336 m c) (v351 m c)
def v405 (m : Mem F) (c : Dev nD) : FVec F S256x256 .bf16 := k0_pay87 (v129 m c) (v336 m c) (v351 m c)
def v406 (m : Mem F) (c : Dev nD) : FVec F S256x64 .bf16 := k0_pay88 (v129 m c)
def v407 (m : Mem F) (c : Dev nD) : FVec F S256x64 .bf16 := k0_pay89 (v336 m c)
def cst_225 (m : Mem F) (c : Dev nD) : FVec F S256x256 .f32 := constant S256x256 .f32 0x00000000#32

/-! part 12 -/

def v424 (m : Mem F) (c : Dev nD) : BitVec 32 := Scalar.subi (v2 c) 3#32
def v425 (m : Mem F) (c : Dev nD) : BitVec 32 := Scalar.addi (v424 m c) 4#32
def v426 (m : Mem F) (c : Dev nD) : BitVec 32 := Scalar.remsi (v425 m c) 4#32
def v443 (m : Mem F) (c : Dev nD) : BitVec 32 := Scalar.muli (v426 m c) 4#32
def v436 (m : Mem F) (c : Dev nD) : Vec F S1x1x256x256 .fp8e4m3 := ((Memref.whole cc0_scratch0).access (Rect.unit (s := S4x2x256x256) (k0_off5 c 3#32) S1x1x256x256.size (k0_off5_inb c 2))).read (Elt F) (Kown m (bwd 2 c))
def v440 (m : Mem F) (c : Dev nD) : Vec F S1x1x256x256 .fp8e4m3 := ((Memref.whole cc0_scratch0).access (Rect.unit (s := S4x2x256x256) (k0_off6 c 3#32) S1x1x256x256.size (k0_off6_inb c 2))).read (Elt F) (Kown m (bwd 2 c))
def v413 (m : Mem F) (c : Dev nD) : FVec F S256x1 .f32 := k0_pay91 (v279 m c) (v351 m c) (v406 m c) (v407 m c) (cst_225 m c)
def v414 (m : Mem F) (c : Dev nD) : FVec F S256x256 .bf16 := k0_pay92 (v351 m c) (v406 m c) (v407 m c) (cst_225 m c)
def v422 (m : Mem F) (c : Dev nD) : FVec F S256x1 .f32 := k0_pay94 (v129 m c) (v288 m c) (v336 m c) (v351 m c)
def v423 (m : Mem F) (c : Dev nD) : FVec F S256x256 .bf16 := k0_pay95 (v129 m c) (v336 m c) (v351 m c)
def v438 (m : Mem F) (c : Dev nD) : FVec F S256x256 .bf16 := k0_pay96 (v436 m c)
def v442 (m : Mem F) (c : Dev nD) : FVec F S256x256 .bf16 := k0_pay97 (v440 m c)

/-! part 13 -/

def v457 (m : Mem F) (c : Dev nD) : FVec F S256x256 .f32 := k0_pay98 (F := F) (v157 m c) (v182 m c) (v443 m c)
def v465 (m : Mem F) (c : Dev nD) : FVec F S256x1 .f32 := k0_pay100 (v123 m c) (v157 m c) (v182 m c) (v359 m c) (v438 m c) (v443 m c)
def v466 (m : Mem F) (c : Dev nD) : FVec F S256x256 .bf16 := k0_pay101 (v123 m c) (v157 m c) (v182 m c) (v438 m c) (v443 m c)
def v474 (m : Mem F) (c : Dev nD) : FVec F S256x1 .f32 := k0_pay103 (v123 m c) (v157 m c) (v182 m c) (v368 m c) (v438 m c) (v443 m c)
def v475 (m : Mem F) (c : Dev nD) : FVec F S256x256 .bf16 := k0_pay104 (v123 m c) (v157 m c) (v182 m c) (v438 m c) (v443 m c)
def v483 (m : Mem F) (c : Dev nD) : FVec F S256x1 .f32 := k0_pay106 (v123 m c) (v157 m c) (v182 m c) (v377 m c) (v438 m c) (v443 m c)
def v484 (m : Mem F) (c : Dev nD) : FVec F S256x256 .bf16 := k0_pay107 (v123 m c) (v157 m c) (v182 m c) (v438 m c) (v443 m c)
def v489 (m : Mem F) (c : Dev nD) : FVec F S256x256 .f32 := k0_pay108 (v123 m c) (v157 m c) (v182 m c) (v438 m c) (v443 m c)
def v492 (m : Mem F) (c : Dev nD) : FVec F S256x1 .f32 := k0_pay109 (v123 m c) (v157 m c) (v182 m c) (v386 m c) (v438 m c) (v443 m c)

/-! part 14 -/

def v530 (m : Mem F) (c : Dev nD) : BitVec 32 := Scalar.subi (v2 c) 2#32
def v531 (m : Mem F) (c : Dev nD) : BitVec 32 := Scalar.addi (v530 m c) 4#32
def v532 (m : Mem F) (c : Dev nD) : BitVec 32 := Scalar.remsi (v531 m c) 4#32
def v493 (m : Mem F) (c : Dev nD) : FVec F S256x256 .bf16 := k0_pay110 (v489 m c)
def v501 (m : Mem F) (c : Dev nD) : FVec F S256x1 .f32 := k0_pay112 (v129 m c) (v395 m c) (v442 m c) (v457 m c)
def v502 (m : Mem F) (c : Dev nD) : FVec F S256x256 .bf16 := k0_pay113 (v129 m c) (v442 m c) (v457 m c)
def v510 (m : Mem F) (c : Dev nD) : FVec F S256x1 .f32 := k0_pay115 (v129 m c) (v404 m c) (v442 m c) (v457 m c)
def v511 (m : Mem F) (c : Dev nD) : FVec F S256x256 .bf16 := k0_pay116 (v129 m c) (v442 m c) (v457 m c)
def v519 (m : Mem F) (c : Dev nD) : FVec F S256x1 .f32 := k0_pay118 (v129 m c) (v413 m c) (v442 m c) (v457 m c)
def v520 (m : Mem F) (c : Dev nD) : FVec F S256x256 .bf16 := k0_pay119 (v129 m c) (v442 m c) (v457 m c)
def v528 (m : Mem F) (c : Dev nD) : FVec F S256x1 .f32 := k0_pay121 (v129 m c) (v422 m c) (v442 m c) (v457 m c)
def v529 (m : Mem F) (c : Dev nD) : FVec F S256x256 .bf16 := k0_pay122 (v129 m c) (v442 m c) (v457 m c)

/-! part 15 -/

def v542 (m : Mem F) (c : Dev nD) : Vec F S1x1x256x256 .fp8e4m3 := ((Memref.whole cc0_scratch0).access (Rect.unit (s := S4x2x256x256) (k0_off5 c 2#32) S1x1x256x256.size (k0_off5_inb c 1))).read (Elt F) (Kown m (bwd 1 c))
def v546 (m : Mem F) (c : Dev nD) : Vec F S1x1x256x256 .fp8e4m3 := ((Memref.whole cc0_scratch0).access (Rect.unit (s := S4x2x256x256) (k0_off6 c 2#32) S1x1x256x256.size (k0_off6_inb c 1))).read (Elt F) (Kown m (bwd 1 c))
def v544 (m : Mem F) (c : Dev nD) : FVec F S256x256 .bf16 := k0_pay123 (v542 m c)
def v548 (m : Mem F) (c : Dev nD) : FVec F S256x256 .bf16 := k0_pay124 (v546 m c)
def v563 (m : Mem F) (c : Dev nD) : FVec F S256x256 .f32 := k0_pay125 (F := F) (v157 m c) (v182 m c) (v532 m c)
def v571 (m : Mem F) (c : Dev nD) : FVec F S256x1 .f32 := k0_pay127 (v123 m c) (v157 m c) (v182 m c) (v465 m c) (v532 m c) (v542 m c)
def v572 (m : Mem F) (c : Dev nD) : FVec F S256x256 .bf16 := k0_pay128 (v123 m c) (v157 m c) (v182 m c) (v532 m c) (v542 m c)
def v577 (m : Mem F) (c : Dev nD) : FVec F S256x256 .f32 := k0_pay129 (v123 m c) (v157 m c) (v182 m c) (v532 m c) (v542 m c)

/-! part 16 -/

def v580 (m : Mem F) (c : Dev nD) : FVec F S256x1 .f32 := k0_pay130 (v474 m c) (v577 m c)
def v581 (m : Mem F) (c : Dev nD) : FVec F S256x256 .bf16 := k0_pay131 (v577 m c)
def v589 (m : Mem F) (c : Dev nD) : FVec F S256x1 .f32 := k0_pay133 (v123 m c) (v483 m c) (v544 m c) (v563 m c)
def v590 (m : Mem F) (c : Dev nD) : FVec F S256x256 .bf16 := k0_pay134 (v123 m c) (v544 m c) (v563 m c)
def v598 (m : Mem F) (c : Dev nD) : FVec F S256x1 .f32 := k0_pay136 (v123 m c) (v492 m c) (v544 m c) (v563 m c)
def v599 (m : Mem F) (c : Dev nD) : FVec F S256x256 .bf16 := k0_pay137 (v123 m c) (v544 m c) (v563 m c)
def v607 (m : Mem F) (c : Dev nD) : FVec F S256x1 .f32 := k0_pay139 (v129 m c) (v501 m c) (v548 m c) (v563 m c)
def v608 (m : Mem F) (c : Dev nD) : FVec F S256x256 .bf16 := k0_pay140 (v129 m c) (v548 m c) (v563 m c)
def v616 (m : Mem F) (c : Dev nD) : FVec F S256x1 .f32 := k0_pay142 (v129 m c) (v510 m c) (v548 m c) (v563 m c)
def v617 (m : Mem F) (c : Dev nD) : FVec F S256x256 .bf16 := k0_pay143 (v129 m c) (v548 m c) (v563 m c)
def v625 (m : Mem F) (c : Dev nD) : FVec F S256x1 .f32 := k0_pay145 (v129 m c) (v519 m c) (v548 m c) (v563 m c)
def v626 (m : Mem F) (c : Dev nD) : FVec F S256x256 .bf16 := k0_pay146 (v129 m c) (v548 m c) (v563 m c)

/-! part 17 -/

def v648 (m : Mem F) (c : Dev nD) : Vec F S1x1x256x256 .bf16 := ((Memref.whole cc0_scratch1).access (Rect.unit (s := S4x2x256x256) (k0_off5 c 1#32) S1x1x256x256.size (k0_off5_inb c 0))).read (Elt F) (Vown m (bwd 0 c))
def v651 (m : Mem F) (c : Dev nD) : Vec F S1x1x256x256 .bf16 := ((Memref.whole cc0_scratch1).access (Rect.unit (s := S4x2x256x256) (k0_off6 c 1#32) S1x1x256x256.size (k0_off6_inb c 0))).read (Elt F) (Vown m (bwd 0 c))
def v634 (m : Mem F) (c : Dev nD) : FVec F S256x1 .f32 := k0_pay148 (v129 m c) (v528 m c) (v548 m c) (v563 m c)
def v635 (m : Mem F) (c : Dev nD) : FVec F S256x256 .bf16 := k0_pay149 (v129 m c) (v548 m c) (v563 m c)
def v649 (m : Mem F) (c : Dev nD) : FVec F S256x256 .bf16 := k0_pay150 (v648 m c)
def v652 (m : Mem F) (c : Dev nD) : FVec F S256x256 .bf16 := k0_pay151 (v651 m c)
def v655 (m : Mem F) (c : Dev nD) : FVec F S256x64 .f32 := k0_pay152 (v296 m c) (v360 m c) (v648 m c)
def v658 (m : Mem F) (c : Dev nD) : FVec F S256x64 .f32 := k0_pay153 (v299 m c) (v369 m c) (v648 m c)
def v661 (m : Mem F) (c : Dev nD) : FVec F S256x64 .f32 := k0_pay154 (v302 m c) (v378 m c) (v648 m c)

/-! part 18 -/

def v689 (m : Mem F) (c : Dev nD) : Vec F S1x1x256x256 .bf16 := ((Memref.whole cc0_scratch1).access (Rect.unit (s := S4x2x256x256) (k0_off5 c 3#32) S1x1x256x256.size (k0_off5_inb c 2))).read (Elt F) (Vown m (bwd 2 c))
def v692 (m : Mem F) (c : Dev nD) : Vec F S1x1x256x256 .bf16 := ((Memref.whole cc0_scratch1).access (Rect.unit (s := S4x2x256x256) (k0_off6 c 3#32) S1x1x256x256.size (k0_off6_inb c 2))).read (Elt F) (Vown m (bwd 2 c))
def v664 (m : Mem F) (c : Dev nD) : FVec F S256x64 .f32 := k0_pay155 (v305 m c) (v387 m c) (v649 m c)
def v667 (m : Mem F) (c : Dev nD) : FVec F S256x64 .f32 := k0_pay156 (v308 m c) (v396 m c) (v652 m c)
def v670 (m : Mem F) (c : Dev nD) : FVec F S256x64 .f32 := k0_pay157 (v311 m c) (v405 m c) (v652 m c)
def v673 (m : Mem F) (c : Dev nD) : FVec F S256x64 .f32 := k0_pay158 (v314 m c) (v414 m c) (v652 m c)
def v676 (m : Mem F) (c : Dev nD) : FVec F S256x64 .f32 := k0_pay159 (v317 m c) (v423 m c) (v652 m c)
def v690 (m : Mem F) (c : Dev nD) : FVec F S256x256 .bf16 := k0_pay160 (v689 m c)
def v693 (m : Mem F) (c : Dev nD) : FVec F S256x256 .bf16 := k0_pay161 (v692 m c)
def v695 (m : Mem F) (c : Dev nD) : FVec F S256x64 .f32 := k0_pay162 (v466 m c) (v689 m c)

/-! part 19 -/

def v718 (m : Mem F) (c : Dev nD) : BitVec 32 := Scalar.subi (v2 c) 2#32
def v719 (m : Mem F) (c : Dev nD) : BitVec 32 := Scalar.addi (v718 m c) 4#32
def v720 (m : Mem F) (c : Dev nD) : BitVec 32 := Scalar.remsi (v719 m c) 4#32
def v730 (m : Mem F) (c : Dev nD) : Vec F S1x1x256x256 .bf16 := ((Memref.whole cc0_scratch1).access (Rect.unit (s := S4x2x256x256) (k0_off5 c 2#32) S1x1x256x256.size (k0_off5_inb c 1))).read (Elt F) (Vown m (bwd 1 c))
def v696 (m : Mem F) (c : Dev nD) : FVec F S256x64 .f32 := k0_pay163 (v655 m c) (v695 m c)
def v699 (m : Mem F) (c : Dev nD) : FVec F S256x64 .f32 := k0_pay164 (v475 m c) (v658 m c) (v690 m c)
def v702 (m : Mem F) (c : Dev nD) : FVec F S256x64 .f32 := k0_pay165 (v484 m c) (v661 m c) (v690 m c)
def v705 (m : Mem F) (c : Dev nD) : FVec F S256x64 .f32 := k0_pay166 (v493 m c) (v664 m c) (v690 m c)
def v708 (m : Mem F) (c : Dev nD) : FVec F S256x64 .f32 := k0_pay167 (v502 m c) (v667 m c) (v693 m c)
def v711 (m : Mem F) (c : Dev nD) : FVec F S256x64 .f32 := k0_pay168 (v511 m c) (v670 m c) (v693 m c)
def v714 (m : Mem F) (c : Dev nD) : FVec F S256x64 .f32 := k0_pay169 (v520 m c) (v673 m c) (v693 m c)
def v717 (m : Mem F) (c : Dev nD) : FVec F S256x64 .f32 := k0_pay170 (v529 m c) (v676 m c) (v693 m c)
def v731 (m : Mem F) (c : Dev nD) : FVec F S256x256 .bf16 := k0_pay171 (v730 m c)

/-! part 20 -/

def v733 (m : Mem F) (c : Dev nD) : Vec F S1x1x256x256 .bf16 := ((Memref.whole cc0_scratch1).access (Rect.unit (s := S4x2x256x256) (k0_off6 c 2#32) S1x1x256x256.size (k0_off6_inb c 1))).read (Elt F) (Vown m (bwd 1 c))
def v752 (m : Mem F) (c : Dev nD) : FVec F S256x64 .f32 := k0_pay173 (v617 m c) (v711 m c) (v733 m c)
def v755 (m : Mem F) (c : Dev nD) : FVec F S256x64 .f32 := k0_pay174 (v626 m c) (v714 m c) (v733 m c)
def v758 (m : Mem F) (c : Dev nD) : FVec F S256x64 .f32 := k0_pay175 (v635 m c) (v717 m c) (v733 m c)
def v774 (m : Mem F) (c : Dev nD) : FVec F S256x64 .f32 := k0_pay177 (v607 m c) (v608 m c) (v708 m c) (v733 m c)
def v775 (m : Mem F) (c : Dev nD) : FVec F S256x64 .f32 := k0_pay178 (v616 m c)

/-! part 21 -/

/-- What the kernel stores of its two batch rows. -/
def out0 (m : Mem F) (c : Dev nD) : Vec F S1x256x512 .f32 := k0_pay176 (v117 m c) (v571 m c) (v572 m c) (v580 m c) (v581 m c) (v589 m c) (v590 m c) (v598 m c) (v599 m c) (v696 m c) (v699 m c) (v702 m c) (v705 m c) (v731 m c)
def out1 (m : Mem F) (c : Dev nD) : Vec F S1x256x512 .f32 := k0_pay179 (v117 m c) (v625 m c) (v634 m c) (v752 m c) (v755 m c) (v758 m c) (v774 m c) (v775 m c)
end Cert.KProof

end
-- ==== Proof.Protocol.lean ====
/-
# The exchange of the four devices

Every device owns one slot of the key buffer and one of the value buffer, the slot of its own number. It tells the three others
that it has entered, lets each of them write the slot of the other's own number in its two buffers, and after the three others
have done the same it copies its own two slots into theirs. This module states that schedule — which semaphore cell is paid by
whom, how much, and with which memory — and proves its tables.
-/
module

public import proofs.«01_k».proof.Proof.Vals

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The launch's resources beside the pipeline's: the exchange's rounds, a duty one of three. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The four devices in a circle -/

/-- The same offset seen from the other side. -/
def rev (j : Fin 3) : Fin 3 := ⟨2 - j.val, by omega⟩

theorem bwd_fwd (j : Fin 3) (c : Dev nD) : bwd j (fwd j c) = c := by revert j c; decide
theorem fwd_bwd (j : Fin 3) (c : Dev nD) : fwd j (bwd j c) = c := by revert j c; decide
theorem fwd_rev_fwd (j : Fin 3) (c : Dev nD) : fwd (rev j) (fwd j c) = c := by revert j c; decide
theorem rev_rev (j : Fin 3) : rev (rev j) = j := by revert j; decide

/-- The rotation by `j + 1` places. -/
def rot (j : Fin 3) : Dev nD ≃ Dev nD := ⟨fwd j, bwd j, bwd_fwd j, fwd_bwd j⟩

theorem dev1_eq (c : Dev nD) : (⟨k0_dev1 c, k0_dev1_lt c⟩ : Dev nD) = fwd 0 c := by revert c; decide
theorem dev2_eq (c : Dev nD) : (⟨k0_dev2 c, k0_dev2_lt c⟩ : Dev nD) = fwd 1 c := by revert c; decide
theorem dev3_eq (c : Dev nD) : (⟨k0_dev3 c, k0_dev3_lt c⟩ : Dev nD) = fwd 2 c := by revert c; decide
theorem dev4_eq (c : Dev nD) : (⟨k0_dev4 c, k0_dev4_lt c⟩ : Dev nD) = fwd 0 c := by revert c; decide
theorem dev5_eq (c : Dev nD) : (⟨k0_dev5 c, k0_dev5_lt c⟩ : Dev nD) = fwd 1 c := by revert c; decide
theorem dev6_eq (c : Dev nD) : (⟨k0_dev6 c, k0_dev6_lt c⟩ : Dev nD) = fwd 2 c := by revert c; decide
theorem dev7_eq (c : Dev nD) : (⟨k0_dev7 c, k0_dev7_lt c⟩ : Dev nD) = fwd 0 c := by revert c; decide
theorem dev8_eq (c : Dev nD) : (⟨k0_dev8 c, k0_dev8_lt c⟩ : Dev nD) = fwd 1 c := by revert c; decide
theorem dev9_eq (c : Dev nD) : (⟨k0_dev9 c, k0_dev9_lt c⟩ : Dev nD) = fwd 2 c := by revert c; decide

theorem off1_eq (c : Dev nD) : k0_off1 c = ![c.val, 0, 0, 0] := by revert c; decide
theorem off2_eq (c : Dev nD) : k0_off2 c = ![c.val, 1, 0, 0] := by revert c; decide
theorem off3_eq (c : Dev nD) : k0_off3 c = ![c.val, 0, 0, 0] := by revert c; decide
theorem off5_eq (c : Dev nD) (j : Fin 3) : k0_off5 c (BitVec.ofNat 32 (1 + j.val)) = ![(bwd j c).val, 0, 0, 0] := by
  revert c j; decide
theorem off6_eq (c : Dev nD) (j : Fin 3) : k0_off6 c (BitVec.ofNat 32 (1 + j.val)) = ![(bwd j c).val, 1, 0, 0] := by
  revert c j; decide

/-! ## The semaphores and cells -/

/-- The runtime's barrier semaphore. -/
abbrev barS : Sem sig := (SemArray.scalar (sig.barrier 0 rfl) : Sems sig S_).sem

/-- The kernel's twelve copy semaphores, in order: three for keys sent, three for keys received, the same of the values. -/
abbrev osem (k : Fin 12) : DmaSem sig := (⟨6 + k.val, by have := k.isLt; show 6 + k.val < 18; omega⟩ : Fin 18)
abbrev ksS (j : Fin 3) : DmaSem sig := osem ⟨j.val, by omega⟩
abbrev krS (j : Fin 3) : DmaSem sig := osem ⟨3 + j.val, by omega⟩
abbrev vsS (j : Fin 3) : DmaSem sig := osem ⟨6 + j.val, by omega⟩
abbrev vrS (j : Fin 3) : DmaSem sig := osem ⟨9 + j.val, by omega⟩

abbrev cellAt (c : Dev nD) (s : SemLoc sig) : GSem nD τ sig := ((c : Thread nD τ), s)
abbrev barCell (c : Dev nD) : GSem nD τ sig := cellAt c (.reg barS)
abbrev scCell (c : Dev nD) (k : Fin 12) : GSem nD τ sig := cellAt c (.dma (osem k))
abbrev ksCell (c : Dev nD) (j : Fin 3) : GSem nD τ sig := cellAt c (.dma (ksS j))
abbrev krCell (c : Dev nD) (j : Fin 3) : GSem nD τ sig := cellAt c (.dma (krS j))
abbrev vsCell (c : Dev nD) (j : Fin 3) : GSem nD τ sig := cellAt c (.dma (vsS j))
abbrev vrCell (c : Dev nD) (j : Fin 3) : GSem nD τ sig := cellAt c (.dma (vrS j))

/-! ## The slots -/

/-- Slot `s` of the key buffer and of the value buffer, as the copies address them. -/
abbrev kS (s : Dev nD) : Memref sig .tc .vmem S2x256x256 .fp8e4m3 :=
  ((Memref.whole cc0_scratch0).slice (Rect.unit (s := S4x2x256x256) (k0_off3 s) S1x2x256x256.size (k0_off3_inb s)) (fun _ => rfl)).squeeze S2x256x256 squeezes_S1x2x256x256_S2x256x256
abbrev vS (s : Dev nD) : Memref sig .tc .vmem S2x256x256 .bf16 :=
  ((Memref.whole cc0_scratch1).slice (Rect.unit (s := S4x2x256x256) (k0_off3 s) S1x2x256x256.size (k0_off3_inb s)) (fun _ => rfl)).squeeze S2x256x256 squeezes_S1x2x256x256_S2x256x256

/-- The elements of slot `s`. -/
def slotSet (s : Dev nD) : Finset S4x2x256x256.Idx := (Rect.unit (s := S4x2x256x256) (k0_off3 s) S1x2x256x256.size (k0_off3_inb s)).set

theorem kS_set (s : Dev nD) : (kS s).view.set = slotSet s := by
  unfold slotSet
  simp only [Memref.view_squeeze, View.set_reshape]
  exact View.set_slice_whole _ _
theorem vS_set (s : Dev nD) : (vS s).view.set = slotSet s := by
  unfold slotSet
  simp only [Memref.view_squeeze, View.set_reshape]
  exact View.set_slice_whole _ _

/-- Slot `s` is the entries whose first coordinate is `s`. -/
theorem mem_slotSet (s : Dev nD) (i : S4x2x256x256.Idx) : i ∈ slotSet s ↔ (i 0).val = s.val := by
  unfold slotSet
  rw [Rect.mem_set_unit, off3_eq]
  have h1 : (i 1).val < 2 := (i 1).isLt
  have h2 : (i 2).val < 256 := (i 2).isLt
  have h3 : (i 3).val < 256 := (i 3).isLt
  constructor
  · intro h
    have h0 := h 0
    change s.val ≤ (i 0).val ∧ (i 0).val < s.val + 1 at h0
    omega
  · intro h a
    fin_cases a
    · show s.val ≤ (i 0).val ∧ (i 0).val < s.val + 1; omega
    · show 0 ≤ (i 1).val ∧ (i 1).val < 0 + 2; omega
    · show 0 ≤ (i 2).val ∧ (i 2).val < 0 + 256; omega
    · show 0 ≤ (i 3).val ∧ (i 3).val < 0 + 256; omega

theorem slot_disjoint {s t : Dev nD} (h : s ≠ t) : Disjoint (slotSet s) (slotSet t) :=
  Finset.disjoint_left.mpr fun i hi hj => h (Fin.ext (((mem_slotSet s i).mp hi).symm.trans ((mem_slotSet t i).mp hj)))
theorem slot_cover : (Finset.univ : Finset (Dev nD)).biUnion slotSet = Finset.univ := by
  ext i
  simp only [Finset.mem_biUnion, Finset.mem_univ, true_and, iff_true]
  exact ⟨⟨(i 0).val, (i 0).isLt⟩, (mem_slotSet _ i).mpr rfl⟩

/-- What a copy of a view onto itself elsewhere leaves is the source's contents on the view. -/
theorem landed_eq {sp : CoreSpace} {s : Shape} {e : EltTy} (v : View sig .tc sp s e) (fd fs : v.ty.Contents (Elt F)) :
    ∀ i ∈ v.set, v.write (Elt F) fd (v.read (Elt F) fs) Finset.univ i = fs i := by
  intro i hi
  obtain ⟨x, -, rfl⟩ := Finset.mem_map.mp hi
  rw [View.write_emb_of_mem _ _ (Finset.mem_univ x), View.read_apply]
  simp

/-- Slot `s` of device `e`'s key buffer, held at share `q` with the contents `f`. -/
def kPts (e s : Dev nD) (q : PosShare TreeShare) (f : cc0_scratch0.ty.Contents (Elt F)) : sProp 𝕄 :=
  (e : Thread nD τ).loc cc0_scratch0 ↦[slotSet s]{q} f
/-- The same of the value buffer. -/
def vPts (e s : Dev nD) (q : PosShare TreeShare) (f : cc0_scratch1.ty.Contents (Elt F)) : sProp 𝕄 :=
  (e : Thread nD τ).loc cc0_scratch1 ↦[slotSet s]{q} f

omit [FloatOps F] in
instance kPts_storable (e s : Dev nD) (q f) : BI.Storable (upEmb : UEmb _ 𝕄) (kPts (F := F) e s q f) := by unfold kPts; infer_instance
omit [FloatOps F] in
instance vPts_storable (e s : Dev nD) (q f) : BI.Storable (upEmb : UEmb _ 𝕄) (vPts (F := F) e s q f) := by unfold vPts; infer_instance

/-- The share of its own slot with which a device makes the copy `j`: a half and two quarters. -/
def sh : Fin 3 → PosShare TreeShare
  | 0 => fullShare.left
  | 1 => fullShare.right.left
  | 2 => fullShare.right.right

/-! ## The schedule -/

/-- What a copy into one slot of the keys, of the values, credits. -/
abbrev NK : ℕ := (kS 0).view.dmaCredit
abbrev NV : ℕ := (vS 0).view.dmaCredit
theorem NK_pos : 0 < NK := View.dmaCredit_pos _ (by decide)
theorem NV_pos : 0 < NV := View.dmaCredit_pos _ (by decide)

/-- What entering hands over: device `e` lets `s` write slot `s` of its two buffers, and is ready to receive `s`'s copy `i`. -/
def peerSlot (e s : Dev nD) (i : Fin 3) : sProp 𝕄 :=
  iprop((∃ f, kPts (F := F) e s fullShare f) ∗ (∃ f, vPts (F := F) e s fullShare f)
    ∗ reached ER (krCell e i) 0 ∗ reached ER (vrCell e i) 0)

/-- Which of the three copies a copy semaphore serves. -/
def lane (s : DmaSem sig) : Fin 3 := ⟨(show Fin 18 from s).val % 3, Nat.mod_lt _ (by decide)⟩

/-- The memory that comes with a copy semaphore's round: of the sending side the device's own slot back, of the receiving side the
peer's slot, filled with what the peer stored. -/
def dmaPay (m : Mem F) (c : Dev nD) (s : DmaSem sig) : sProp 𝕄 :=
  if (show Fin 18 from s).val < 9 then kPts c c (sh (lane s)) (Kown m c)
  else if (show Fin 18 from s).val < 12 then kPts c (bwd (lane s) c) fullShare (Kown m (bwd (lane s) c))
  else if (show Fin 18 from s).val < 15 then vPts c c (sh (lane s)) (Vown m c)
  else vPts c (bwd (lane s) c) fullShare (Vown m (bwd (lane s) c))

/-- One round. The barrier cell has three duties of a unit, the duty `j` paid by the device `j + 1` places back; a copy cell has one. -/
def rd (m : Mem F) : Rounds.Schedule (GSem nD τ sig) (Fin 3) 𝕄 where
  duties g r := if r = 0 ∧ g.1.2 = .tc then
      (match g.2 with | .reg _ => Finset.univ | .dma s => if 6 ≤ (show Fin 18 from s).val then {0} else ∅) else ∅
  unitless _ := False
  amount g _ _ := match g.2 with | .reg _ => 1 | .dma s => if (show Fin 18 from s).val < 12 then NK else NV
  payload g _ d := match g.2 with | .reg _ => peerSlot (bwd d g.1.1) g.1.1 (rev d) | .dma s => dmaPay m g.1.1 s
  amount_pos g _ _ _ := by
    rcases g with ⟨t, s | s⟩
    · exact Nat.one_pos
    · show 0 < (if (show Fin 18 from s).val < 12 then NK else NV)
      split
      · exact NK_pos
      · exact NV_pos

instance rd_payload_storable (m : Mem F) (g : GSem nD τ sig) (r : ℕ) (d : Fin 3) :
    BI.Storable (upEmb : UEmb _ 𝕄) ((rd (F := F) m).payload g r d) := by
  rcases g with ⟨t, s | s⟩
  · show BI.Storable upEmb (peerSlot (F := F) (bwd d t.1) t.1 (rev d))
    unfold peerSlot; infer_instance
  · show BI.Storable upEmb (dmaPay m t.1 s)
    unfold dmaPay
    (repeat' split) <;> infer_instance

section Sched
variable (m : Mem F) (c : Dev nD)

theorem duties_bar : (rd (F := F) m).duties (barCell c) 0 = Finset.univ := by dsimp only [rd]; exact if_pos ⟨rfl, rfl⟩
theorem duties_sc (k : Fin 12) : (rd (F := F) m).duties (scCell c k) 0 = {0} := by
  dsimp only [rd]; rw [if_pos ⟨rfl, rfl⟩]; exact if_pos (Nat.le_add_right 6 k.val)
theorem duties_later (g : GSem nD τ sig) : ∀ r, 1 ≤ r → (rd (F := F) m).duties g r = ∅ :=
  fun r hr => by dsimp only [rd]; exact if_neg fun h => by omega
theorem amount_bar (d : Fin 3) : (rd (F := F) m).amount (barCell c) 0 d = 1 := rfl
theorem amount_ks (j d : Fin 3) : (rd (F := F) m).amount (ksCell c j) 0 d = NK := by
  show (if 6 + j.val < 12 then NK else NV) = NK; exact if_pos (by omega)
theorem amount_kr (j d : Fin 3) : (rd (F := F) m).amount (krCell c j) 0 d = NK := by
  show (if 6 + (3 + j.val) < 12 then NK else NV) = NK; exact if_pos (by omega)
theorem amount_vs (j d : Fin 3) : (rd (F := F) m).amount (vsCell c j) 0 d = NV := by
  show (if 6 + (6 + j.val) < 12 then NK else NV) = NV; exact if_neg (by omega)
theorem amount_vr (j d : Fin 3) : (rd (F := F) m).amount (vrCell c j) 0 d = NV := by
  show (if 6 + (9 + j.val) < 12 then NK else NV) = NV; exact if_neg (by omega)

theorem expect_bar : (rd (F := F) m).expect (barCell c) 0 = 3 := by
  unfold Schedule.expect Schedule.amountOf
  rw [duties_bar, Finset.sum_congr rfl fun d _ => amount_bar m c d]; rfl
theorem expect_ks (j : Fin 3) : (rd (F := F) m).expect (ksCell c j) 0 = NK := by
  unfold Schedule.expect Schedule.amountOf; rw [duties_sc, Finset.sum_singleton, amount_ks]
theorem expect_kr (j : Fin 3) : (rd (F := F) m).expect (krCell c j) 0 = NK := by
  unfold Schedule.expect Schedule.amountOf; rw [duties_sc, Finset.sum_singleton, amount_kr]
theorem expect_vs (j : Fin 3) : (rd (F := F) m).expect (vsCell c j) 0 = NV := by
  unfold Schedule.expect Schedule.amountOf; rw [duties_sc, Finset.sum_singleton, amount_vs]
theorem expect_vr (j : Fin 3) : (rd (F := F) m).expect (vrCell c j) 0 = NV := by
  unfold Schedule.expect Schedule.amountOf; rw [duties_sc, Finset.sum_singleton, amount_vr]

theorem payload_bar (d : Fin 3) : (rd (F := F) m).payload (barCell c) 0 d = peerSlot (bwd d c) c (rev d) := rfl
theorem lane_ks (j : Fin 3) : lane (ksS j) = j := by revert j; decide
theorem lane_kr (j : Fin 3) : lane (krS j) = j := by revert j; decide
theorem lane_vs (j : Fin 3) : lane (vsS j) = j := by revert j; decide
theorem lane_vr (j : Fin 3) : lane (vrS j) = j := by revert j; decide
theorem payload_ks (j d : Fin 3) : (rd (F := F) m).payload (ksCell c j) 0 d = kPts c c (sh j) (Kown m c) := by
  show dmaPay m c (ksS j) = _
  unfold dmaPay; rw [lane_ks]
  exact if_pos (show 6 + j.val < 9 by omega)
theorem payload_kr (j d : Fin 3) : (rd (F := F) m).payload (krCell c j) 0 d = kPts c (bwd j c) fullShare (Kown m (bwd j c)) := by
  show dmaPay m c (krS j) = _
  unfold dmaPay; rw [lane_kr]
  exact (if_neg (show ¬ 6 + (3 + j.val) < 9 by omega)).trans (if_pos (show 6 + (3 + j.val) < 12 by omega))
theorem payload_vs (j d : Fin 3) : (rd (F := F) m).payload (vsCell c j) 0 d = vPts c c (sh j) (Vown m c) := by
  show dmaPay m c (vsS j) = _
  unfold dmaPay; rw [lane_vs]
  exact (if_neg (show ¬ 6 + (6 + j.val) < 9 by omega)).trans ((if_neg (show ¬ 6 + (6 + j.val) < 12 by omega)).trans
    (if_pos (show 6 + (6 + j.val) < 15 by omega)))
theorem payload_vr (j d : Fin 3) : (rd (F := F) m).payload (vrCell c j) 0 d = vPts c (bwd j c) fullShare (Vown m (bwd j c)) := by
  show dmaPay m c (vrS j) = _
  unfold dmaPay; rw [lane_vr]
  exact (if_neg (show ¬ 6 + (9 + j.val) < 9 by omega)).trans ((if_neg (show ¬ 6 + (9 + j.val) < 12 by omega)).trans
    (if_neg (show ¬ 6 + (9 + j.val) < 15 by omega)))

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- All that comes with the barrier's round. -/
theorem rest_bar : bigSep ((rd (F := F) m).duties (barCell c) 0 \ ∅) (fun d => (rd (F := F) m).payload (barCell c) 0 d)
    = iprop(peerSlot (bwd 0 c) c 2 ∗ peerSlot (bwd 1 c) c 1 ∗ peerSlot (bwd 2 c) c 0) := by
  rw [Finset.sdiff_empty, duties_bar, bigSep_fin3]; rfl
/-- All that comes with a copy semaphore's round. -/
theorem rest_sc (k : Fin 12) (P : sProp 𝕄) (h : (rd (F := F) m).payload (scCell c k) 0 0 = P) :
    bigSep ((rd (F := F) m).duties (scCell c k) 0 \ ∅) (fun d => (rd (F := F) m).payload (scCell c k) 0 d) = P := by
  rw [Finset.sdiff_empty, duties_sc, bigSep_singleton, h]

end Sched

/-! ## What each device owes; the levels -/

abbrev tK (c : Dev nD) (j : Fin 3) : CellTallies nD τ sig Unit := tallyAt (krCell (fwd j c) j) () NK
abbrev tV (c : Dev nD) (j : Fin 3) : CellTallies nD τ sig Unit := tallyAt (vrCell (fwd j c) j) () NV
abbrev tB (c : Dev nD) (j : Fin 3) : CellTallies nD τ sig Unit := tallyAt (barCell (fwd j c)) () 1

/-- What is still owed after each of the nine steps that pay: the value copies last, before them the key copies, first the signals. -/
def OV2 (c : Dev nD) : CellTallies nD τ sig Unit := 0 + tV c 2
def OV1 (c : Dev nD) : CellTallies nD τ sig Unit := OV2 c + tV c 1
def OV0 (c : Dev nD) : CellTallies nD τ sig Unit := OV1 c + tV c 0
def OK2 (c : Dev nD) : CellTallies nD τ sig Unit := OV0 c + tK c 2
def OK1 (c : Dev nD) : CellTallies nD τ sig Unit := OK2 c + tK c 1
def OK0 (c : Dev nD) : CellTallies nD τ sig Unit := OK1 c + tK c 0
def OB2 (c : Dev nD) : CellTallies nD τ sig Unit := OK0 c + tB c 2
def OB1 (c : Dev nD) : CellTallies nD τ sig Unit := OB2 c + tB c 1
def O₀ (c : Dev nD) : CellTallies nD τ sig Unit := OB1 c + tB c 0

def L (g : GSem nD τ sig) : Finset Unit := if g.1.2 = .tc then {()} else ∅
/-- Receiving a copy is above the barrier, the barrier above the rest. -/
def lvS : SemLoc sig → ℕ
  | .reg _ => 1
  | .dma s => if (show Fin 18 from s).val < 6 then 0 else 2
def lv (g : GSem nD τ sig) (_ : Unit) : ℕ := lvS g.2

theorem L_of_ne (g : GSem nD τ sig) (h : g.1.2 ≠ .tc) : L g = ∅ := if_neg h
theorem L_tc (c : Dev nD) (s : SemLoc sig) : L (cellAt c s) = {()} := if_pos rfl

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h
theorem add_pos {A B : CellTallies nD τ sig Unit} {g : GSem nD τ sig} {u : Unit} (h : 0 < (A + B) g u) : 0 < A g u ∨ 0 < B g u := by
  rw [Pi.add_apply, Finsupp.add_apply] at h
  omega

/-- Before the copies a device owes receive cells only. -/
theorem OK0_pos {c : Dev nD} {g : GSem nD τ sig} {u : Unit} (h : 0 < OK0 c g u) : ∃ d j, g = krCell d j ∨ g = vrCell d j := by
  unfold OK0 OK1 OK2 OV0 OV1 OV2 at h
  rcases add_pos h with h | h
  rcases add_pos h with h | h
  rcases add_pos h with h | h
  rcases add_pos h with h | h
  rcases add_pos h with h | h
  rcases add_pos h with h | h
  · exact absurd h (Nat.lt_irrefl 0)
  · exact ⟨_, _, .inr (tally_pos h)⟩
  · exact ⟨_, _, .inr (tally_pos h)⟩
  · exact ⟨_, _, .inr (tally_pos h)⟩
  · exact ⟨_, _, .inl (tally_pos h)⟩
  · exact ⟨_, _, .inl (tally_pos h)⟩
  · exact ⟨_, _, .inl (tally_pos h)⟩
/-- At launch it owes those and barrier cells. -/
theorem O₀_pos {c : Dev nD} {g : GSem nD τ sig} {u : Unit} (h : 0 < O₀ c g u) : (∃ d, g = barCell d) ∨ ∃ d j, g = krCell d j ∨ g = vrCell d j := by
  unfold O₀ OB1 OB2 at h
  rcases add_pos h with h | h
  rcases add_pos h with h | h
  rcases add_pos h with h | h
  · exact .inr (OK0_pos h)
  · exact .inl ⟨_, tally_pos h⟩
  · exact .inl ⟨_, tally_pos h⟩
  · exact .inl ⟨_, tally_pos h⟩

theorem lv_kr (d : Dev nD) (j : Fin 3) (u : Unit) : lv (krCell d j) u = 2 := if_neg (show ¬ 6 + (3 + j.val) < 6 by omega)
theorem lv_vr (d : Dev nD) (j : Fin 3) (u : Unit) : lv (vrCell d j) u = 2 := if_neg (show ¬ 6 + (9 + j.val) < 6 by omega)
theorem lv_bar (d : Dev nD) (u : Unit) : lv (barCell d) u = 1 := rfl

omit [FloatOps F] in
/-- At its barrier wait a device owes receive cells only, and they are above. -/
theorem mayWait_bar (c : Dev nD) : (levAts L lv : sProp 𝕄) ⊢ MayWait (c : Thread nD τ) (.reg barS) () (OK0 c) :=
  MayOwe.of_cut (L := L) (lev := lv) 1 (fun p hp => by rw [Finset.mem_singleton.mp hp, L_tc]; exact Finset.mem_singleton_self _)
    (fun g u hg => by obtain ⟨d, j, rfl | rfl⟩ := OK0_pos hg <;> exact Finset.mem_singleton_self _)
    (fun p hp => by rw [Finset.mem_singleton.mp hp]; exact (lv_bar c _).le)
    (fun g u hg => by
      obtain ⟨d, j, rfl | rfl⟩ := OK0_pos hg
      · rw [lv_kr]; decide
      · rw [lv_vr]; decide)

omit [FloatOps F] in
/-- At a wait of the staging copies it may owe everything it owes at launch, or nothing. -/
theorem mayWait_stage (c : Dev nD) (q : DmaSem sig) (hq : (show Fin 18 from q).val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, j, rfl | rfl⟩ <;> exact Finset.mem_singleton_self _)
      (fun p hp => by rw [Finset.mem_singleton.mp hp]; exact (if_pos hq : lvS (.dma q) = 0).le)
      (fun g u hg => by
        rcases O₀_pos hg with ⟨d, rfl⟩ | ⟨d, j, rfl | rfl⟩
        · rw [lv_bar]; decide
        · rw [lv_kr]; decide
        · rw [lv_vr]; decide)
  · rw [MayWait_zero]; iintro -; iempintro

/-! ## The slots of a buffer apart and together -/

theorem slots_list (c : Dev nD) : (Finset.univ : Finset (Dev nD)) = ([c, fwd 0 c, fwd 1 c, fwd 2 c] : List (Dev nD)).toFinset := by
  revert c; decide
theorem slots_nodup (c : Dev nD) : ([c, fwd 0 c, fwd 1 c, fwd 2 c] : List (Dev nD)).Nodup := by
  revert c; decide
theorem slots_list' (c : Dev nD) : (Finset.univ : Finset (Dev nD)) = ([c, bwd 0 c, bwd 1 c, bwd 2 c] : List (Dev nD)).toFinset := by
  revert c; decide
theorem slots_nodup' (c : Dev nD) : ([c, bwd 0 c, bwd 1 c, bwd 2 c] : List (Dev nD)).Nodup := by
  revert c; decide

omit [FloatOps F] in
/-- The key buffer of device `c`, slot by slot. -/
theorem k_slots (c : Dev nD) (f : cc0_scratch0.ty.Contents (Elt F)) :
    ((c : Thread nD τ).loc cc0_scratch0 ↦{fullShare} f : sProp 𝕄)
      = iprop(kPts c c fullShare f ∗ kPts c (fwd 0 c) fullShare f ∗ kPts c (fwd 1 c) fullShare f ∗ kPts c (fwd 2 c) fullShare f) := by
  have h := pointsTo_biUnion (nD := nD) (τ := τ) (sig := sig) (Ix := Unit) (Name := ℕ) (U := UU) (Lvl := ℕ) (ℓ := (c : Thread nD τ).loc cc0_scratch0) (q := fullShare) (f := f) (Val := Elt F)
    Finset.univ slotSet (fun t _ t' _ h => slot_disjoint h)
  rw [show (Finset.univ : Finset (Dev nD)).biUnion slotSet = Finset.univ from slot_cover] at h
  rw [h, bigSep_univ_eq_bigSepL _ (slots_list c) (slots_nodup c)]
  simp only [bigSepL_cons_cons, bigSepL_singleton]; rfl
omit [FloatOps F] in
/-- The value buffer of device `c`, slot by slot. -/
theorem v_slots (c : Dev nD) (f : cc0_scratch1.ty.Contents (Elt F)) :
    ((c : Thread nD τ).loc cc0_scratch1 ↦{fullShare} f : sProp 𝕄)
      = iprop(vPts c c fullShare f ∗ vPts c (fwd 0 c) fullShare f ∗ vPts c (fwd 1 c) fullShare f ∗ vPts c (fwd 2 c) fullShare f) := by
  have h := pointsTo_biUnion (nD := nD) (τ := τ) (sig := sig) (Ix := Unit) (Name := ℕ) (U := UU) (Lvl := ℕ) (ℓ := (c : Thread nD τ).loc cc0_scratch1) (q := fullShare) (f := f) (Val := Elt F)
    Finset.univ slotSet (fun t _ t' _ h => slot_disjoint h)
  rw [show (Finset.univ : Finset (Dev nD)).biUnion slotSet = Finset.univ from slot_cover] at h
  rw [h, bigSep_univ_eq_bigSepL _ (slots_list c) (slots_nodup c)]
  simp only [bigSepL_cons_cons, bigSepL_singleton]; rfl

omit [FloatOps F] in
/-- The four slots of device `c`'s key buffer, at contents of their own, are the buffer at some contents. -/
theorem k_join (c : Dev nD) (f : Dev nD → cc0_scratch0.ty.Contents (Elt F)) :
    iprop(kPts c c fullShare (f c) ∗ kPts c (bwd 0 c) fullShare (f (bwd 0 c)) ∗ kPts c (bwd 1 c) fullShare (f (bwd 1 c)) ∗ kPts c (bwd 2 c) fullShare (f (bwd 2 c)))
      ⊢ (iprop(∃ g, (c : Thread nD τ).loc cc0_scratch0 ↦{fullShare} g) : sProp 𝕄) := by
  have h := pointsTo_biUnion_join (nD := nD) (τ := τ) (sig := sig) (Ix := Unit) (Name := ℕ) (U := UU) (Lvl := ℕ) (ℓ := (c : Thread nD τ).loc cc0_scratch0) (q := fullShare) (Val := Elt F)
    Finset.univ slotSet f (f c) (fun t _ t' _ h => slot_disjoint h)
  rw [show (Finset.univ : Finset (Dev nD)).biUnion slotSet = Finset.univ from slot_cover, bigSep_univ_eq_bigSepL _ (slots_list' c) (slots_nodup' c)] at h
  simp only [bigSepL_cons_cons, bigSepL_singleton] at h
  refine BIBase.Entails.trans h ?_
  iintro ⟨%g, -, H⟩
  iexists g; iexact H
omit [FloatOps F] in
/-- The same of the value buffer. -/
theorem v_join (c : Dev nD) (f : Dev nD → cc0_scratch1.ty.Contents (Elt F)) :
    iprop(vPts c c fullShare (f c) ∗ vPts c (bwd 0 c) fullShare (f (bwd 0 c)) ∗ vPts c (bwd 1 c) fullShare (f (bwd 1 c)) ∗ vPts c (bwd 2 c) fullShare (f (bwd 2 c)))
      ⊢ (iprop(∃ g, (c : Thread nD τ).loc cc0_scratch1 ↦{fullShare} g) : sProp 𝕄) := by
  have h := pointsTo_biUnion_join (nD := nD) (τ := τ) (sig := sig) (Ix := Unit) (Name := ℕ) (U := UU) (Lvl := ℕ) (ℓ := (c : Thread nD τ).loc cc0_scratch1) (q := fullShare) (Val := Elt F)
    Finset.univ slotSet f (f c) (fun t _ t' _ h => slot_disjoint h)
  rw [show (Finset.univ : Finset (Dev nD)).biUnion slotSet = Finset.univ from slot_cover, bigSep_univ_eq_bigSepL _ (slots_list' c) (slots_nodup' c)] at h
  simp only [bigSepL_cons_cons, bigSepL_singleton] at h
  refine BIBase.Entails.trans h ?_
  iintro ⟨%g, -, H⟩
  iexists g; iexact H

/-- The own slot's three shares. -/
theorem k_share (c : Dev nD) (f : cc0_scratch0.ty.Contents (Elt F)) :
    (kPts c c fullShare f : sProp 𝕄) ⊣⊢ iprop(kPts c c (sh 0) f ∗ kPts c c (sh 1) f ∗ kPts c c (sh 2) f) :=
  (pointsTo_share (PosShare.mem_left_op_right fullShare)).trans
    (sep_congr BiEntails.refl (pointsTo_share (PosShare.mem_left_op_right fullShare.right)))
theorem v_share (c : Dev nD) (f : cc0_scratch1.ty.Contents (Elt F)) :
    (vPts c c fullShare f : sProp 𝕄) ⊣⊢ iprop(vPts c c (sh 0) f ∗ vPts c c (sh 1) f ∗ vPts c c (sh 2) f) :=
  (pointsTo_share (PosShare.mem_left_op_right fullShare)).trans
    (sep_congr BiEntails.refl (pointsTo_share (PosShare.mem_left_op_right fullShare.right)))

end Cert.KProof

end
-- ==== Proof.Steps.lean ====
/-
# The steps of the exchange

One rule for each kind of step a device makes: entering, sending its keys, sending its values, waiting for a copy, reading a slot.
-/
module

public import proofs.«01_k».proof.Proof.Protocol

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The records every device reads -/

/-- The cells of the exchange: the barrier cells and the copy cells. -/
def barCells : Finset (GSem nD τ sig) := Finset.univ.image barCell
def scCells : Finset (GSem nD τ sig) := Finset.univ.image fun p : Dev nD × Fin 12 => scCell p.1 p.2

/-- Every cell's invariant, under the names `K`, and that every barrier cell has reached its round. -/
def recs (m : Mem F) (K : GSem nD τ sig → ℕ) : sProp 𝕄 :=
  iprop((bigSep (barCells ∪ scCells) fun g => cellInv ER (rd m) (K g) g) ∗ (bigSep barCells fun g => reached ER g 0))

instance recs_persistent (m : Mem F) (K : GSem nD τ sig → ℕ) : BI.Persistent (recs (F := F) m K) := by unfold recs; infer_instance

theorem mem_bar (c : Dev nD) : barCell c ∈ barCells := Finset.mem_image_of_mem _ (Finset.mem_univ c)
theorem mem_sc (c : Dev nD) (k : Fin 12) : scCell c k ∈ scCells := Finset.mem_image_of_mem (fun p : Dev nD × Fin 12 => scCell p.1 p.2) (Finset.mem_univ (c, k))

theorem inv_bar (m : Mem F) (K) (c : Dev nD) : recs m K ⊢ cellInv ER (rd m) (K (barCell c)) (barCell c) := by
  unfold recs
  iintro ⟨H, -⟩
  iapply (show bigSep (barCells ∪ scCells) (fun g => cellInv ER (rd m) (K g) g) ⊢ cellInv ER (rd m) (K (barCell c)) (barCell c) from
    bigSep_elim (Finset.mem_union_left _ (mem_bar c))) $$ H
theorem inv_sc (m : Mem F) (K) (c : Dev nD) (k : Fin 12) : recs m K ⊢ cellInv ER (rd m) (K (scCell c k)) (scCell c k) := by
  unfold recs
  iintro ⟨H, -⟩
  iapply (show bigSep (barCells ∪ scCells) (fun g => cellInv ER (rd m) (K g) g) ⊢ cellInv ER (rd m) (K (scCell c k)) (scCell c k) from
    bigSep_elim (Finset.mem_union_right _ (mem_sc c k))) $$ H
theorem reached_bar (m : Mem F) (K) (c : Dev nD) : recs m K ⊢ reached ER (barCell c) 0 := by
  unfold recs
  iintro ⟨-, H⟩
  iapply (show bigSep barCells (fun g => (reached ER g 0 : sProp 𝕄)) ⊢ reached ER (barCell c) 0 from bigSep_elim (mem_bar c)) $$ H

/-- What a device owes, at whatever waits it has made. -/
def oweE (c : Dev nD) (O : CellTallies nD τ sig Unit) : sProp 𝕄 := iprop(∃ W, owes (c : Thread nD τ) O W)

section Steps
variable (m : Mem F) (K : GSem nD τ sig → ℕ) (c : Dev nD)

/-- Entering: device `c` tells the device `j + 1` places on, and hands it the slots it may write. -/
theorem step_signal (j : Fin 3) (n : Dev nD) (hn : n = fwd j c) {α : Type} {Q : α → sProp 𝕄} {k : PUnit → Prog (TpuEff nD τ sig (Elt F) Λ₀ .tc) α}
    (O O' : CellTallies nD τ sig Unit) (hO : O = O' + tB c j) :
    iprop(recs m K ∗ oweE c O ∗ dutyTok ER (barCell (fwd j c)) 0 j
        ∗ (∃ f, kPts (F := F) c (fwd j c) fullShare f) ∗ (∃ f, vPts (F := F) c (fwd j c) fullShare f)
        ∗ reached ER (krCell c (rev j)) 0 ∗ reached ER (vrCell c (rev j)) 0)
      ⊢ iprop((oweE c O' -∗ wp frame (wpE (defs₀ (F := F)) 𝒱₀ (c : Thread nD τ) none) Set.univ (k ⟨⟩) Q)
          -∗ wp frame (wpE (defs₀ (F := F)) 𝒱₀ (c : Thread nD τ) none) Set.univ (Prog.bind (semSignalWord n barS 1#32) k) Q) := by
  subst hn hO
  simp only [semSignalWord, Prog.lift, Prog.bind_op, Prog.bind_ret, Prog.pure_eq_ret]
  unfold oweE
  iintro ⟨#HR, ⟨%W, HO⟩, Ht, Hk, Hv, Hr1, Hr2⟩ Hc
  iapply (Rounds.wp_signal 𝒱₀ ER (rd m) (c : Thread nD τ) none (dst := (fwd j c : Thread nD τ)) (κ := K (barCell (fwd j c)))
      (d := j) (by rw [duties_bar]; exact Finset.mem_univ _) ((amount_bar m (fwd j c) j).trans (by decide)) () O' rfl)
    $$ [HO Ht Hk Hv Hr1 Hr2]
  · isplitr; · iapply (inv_bar m K (fwd j c)); iexact HR
    isplitl [HO]; · iexact HO
    isplitl [Ht]; · iexact Ht
    isplitl [Hk Hv Hr1 Hr2]
    · rw [payload_bar, bwd_fwd]; unfold peerSlot
      isplitl [Hk]; · iexact Hk
      isplitl [Hv]; · iexact Hv
      isplitl [Hr1]; · iexact Hr1
      iexact Hr2
    iapply (reached_bar m K (fwd j c)); iexact HR
  iintro HO
  iapply Hc
  iexists W; iexact HO

/-- The wait for the three others: the slots of theirs that device `c` may write. -/
theorem step_barrier {α : Type} {Q : α → sProp 𝕄} {k : PUnit → Prog (TpuEff nD τ sig (Elt F) Λ₀ .tc) α} :
    iprop(recs m K ∗ levAts L lv ∗ oweE c (OK0 c) ∗ cred (tallyAt (barCell c) () 3) ∗ atPos ER (barCell c) 0 ∅ 0)
      ⊢ iprop(((oweE c (OK0 c) ∗ atPos ER (barCell c) (0 + 1) ∅ 0
              ∗ peerSlot (fwd 0 c) c 0 ∗ peerSlot (fwd 1 c) c 1 ∗ peerSlot (fwd 2 c) c 2)
            -∗ wp frame (wpE (defs₀ (F := F)) 𝒱₀ (c : Thread nD τ) none) Set.univ (k ⟨⟩) Q)
          -∗ wp frame (wpE (defs₀ (F := F)) 𝒱₀ (c : Thread nD τ) none) Set.univ (Prog.bind (semWaitWord barS 3#32) k) Q) := by
  simp only [semWaitWord, Prog.lift, Prog.bind_op, Prog.bind_ret, Prog.pure_eq_ret]
  unfold oweE
  iintro ⟨#HR, #Hlev, ⟨%W, HO⟩, HcB, HatB⟩ Hc
  iapply (Rounds.wp_wait_rest_token 𝒱₀ ER (rd m) (c : Thread nD τ) none (κ := K (barCell c))
      (wpE_semWait_eq 𝒱₀ (c : Thread nD τ) none Set.univ) (Set.mem_univ _) () (O := OK0 c) (W := W) (R := 0) (m := 0) (T := ∅)
      (by rw [expect_bar]; decide)) $$ [HcB HO HatB]
  · isplitr; · iapply (inv_bar m K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  rw [show bwd 0 c = fwd 2 c from by revert c; decide, show bwd 1 c = fwd 1 c from by revert c; decide, show bwd 2 c = fwd 0 c from by revert c; decide]
  icases Hp with ⟨H2, H1, H0⟩
  iapply Hc
  isplitl [HO]; · iexists _; iexact HO
  isplitl [HatB]; · iexact HatB
  isplitl [H0]; · iexact H0
  isplitl [H1]; · iexact H1
  iexact H2

/-- Sending its keys to the device `j + 1` places on. -/
theorem step_sendK (j : Fin 3) (n : Dev nD) (hn : n = fwd j c) (s₁ s₂ : DmaSem sig) (h₁ : s₁ = ksS j) (h₂ : s₂ = krS j)
    {hsc : (kS c : Memref sig (Dev.tc n : Thread nD τ).2.kind .vmem S2x256x256 .fp8e4m3).view.ref.isScScratch = false}
    {hsrc : (kS c).view.WordExact} {hdst : (kS c).view.WordExact}
    {hsem : DmaTarget.Typed .vmem (.dma s₂) (.remote (Dev.tc n : Thread nD τ) (kS c) (.dma s₁) hsc)}
    {α : Type} {Q : α → sProp 𝕄} {k : PUnit → Prog (TpuEff nD τ sig (Elt F) Λ₀ .tc) α}
    (O O' : CellTallies nD τ sig Unit) (hO : O = O' + tK c j) :
    iprop(recs m K ∗ kPts c c (sh j) (Kown m c) ∗ (∃ f, kPts (F := F) (fwd j c) c fullShare f) ∗ oweE c O
        ∗ dutyTok ER (ksCell c j) 0 0 ∗ reached ER (ksCell c j) 0 ∗ dutyTok ER (krCell (fwd j c) j) 0 0 ∗ reached ER (krCell (fwd j c) j) 0)
      ⊢ iprop(((cred (tallyAt (ksCell c j) () NK) ∗ oweE c O') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kS c) (.remote (Dev.tc n : Thread nD τ) (kS c) (.dma s₁) hsc) (.dma s₂) hsrc hdst hsem) k) Q) := by
  subst hn hO h₁ h₂
  unfold oweE
  iintro ⟨#HR, Hs, ⟨%fd, Hd⟩, ⟨%W, HO⟩, Ht1, Hr1, Ht2, Hr2⟩ Hc
  unfold kPts
  rw [← kS_set c]
  iapply (Rounds.wp_send_pointsTo 𝒱₀ ER (rd m) (c : Thread nD τ) none (κ₁ := K (ksCell c j)) (κ₂ := K (krCell (fwd j c) j))
    (c' := (fwd j c : Thread nD τ)) (src := kS c) (dst := kS c) (q := sh j) (fs := Kown m c)
    (r₁ := 0) (r₂ := 0) (d₁ := 0) (d₂ := 0) (fd := fd)
    (by rw [duties_sc]; exact Finset.mem_singleton_self _) (by rw [duties_sc]; exact Finset.mem_singleton_self _)
    () () NK rfl (amount_ks m c j 0) (amount_kr m (fwd j c) j 0) O' rfl (W := W)
    (by rw [payload_ks]; unfold kPts; rw [← kS_set c])
    (by
      rw [payload_kr, bwd_fwd]; unfold kPts; rw [← kS_set c]
      exact Entails.of_eq (pointsTo_congr (landed_eq (kS c).view fd (Kown m c))))) $$ [Hs Hd HO Ht1 Hr1 Ht2 Hr2]
  · isplitr; · iapply (inv_sc m K c _); iexact HR
    isplitr; · iapply (inv_sc m K (fwd j c) _); iexact HR
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hcr, HO⟩
  iapply Hc
  isplitl [Hcr]; · iexact Hcr
  iexists W; iexact HO

/-- Sending its values to the device `j + 1` places on. -/
theorem step_sendV (j : Fin 3) (n : Dev nD) (hn : n = fwd j c) (s₁ s₂ : DmaSem sig) (h₁ : s₁ = vsS j) (h₂ : s₂ = vrS j)
    {hsc : (vS c : Memref sig (Dev.tc n : Thread nD τ).2.kind .vmem S2x256x256 .bf16).view.ref.isScScratch = false}
    {hsrc : (vS c).view.WordExact} {hdst : (vS c).view.WordExact}
    {hsem : DmaTarget.Typed .vmem (.dma s₂) (.remote (Dev.tc n : Thread nD τ) (vS c) (.dma s₁) hsc)}
    {α : Type} {Q : α → sProp 𝕄} {k : PUnit → Prog (TpuEff nD τ sig (Elt F) Λ₀ .tc) α}
    (O O' : CellTallies nD τ sig Unit) (hO : O = O' + tV c j) :
    iprop(recs m K ∗ vPts c c (sh j) (Vown m c) ∗ (∃ f, vPts (F := F) (fwd j c) c fullShare f) ∗ oweE c O
        ∗ dutyTok ER (vsCell c j) 0 0 ∗ reached ER (vsCell c j) 0 ∗ dutyTok ER (vrCell (fwd j c) j) 0 0 ∗ reached ER (vrCell (fwd j c) j) 0)
      ⊢ iprop(((cred (tallyAt (vsCell c j) () NV) ∗ oweE c O') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vS c) (.remote (Dev.tc n : Thread nD τ) (vS c) (.dma s₁) hsc) (.dma s₂) hsrc hdst hsem) k) Q) := by
  subst hn hO h₁ h₂
  unfold oweE
  iintro ⟨#HR, Hs, ⟨%fd, Hd⟩, ⟨%W, HO⟩, Ht1, Hr1, Ht2, Hr2⟩ Hc
  unfold vPts
  rw [← vS_set c]
  iapply (Rounds.wp_send_pointsTo 𝒱₀ ER (rd m) (c : Thread nD τ) none (κ₁ := K (vsCell c j)) (κ₂ := K (vrCell (fwd j c) j))
    (c' := (fwd j c : Thread nD τ)) (src := vS c) (dst := vS c) (q := sh j) (fs := Vown m c)
    (r₁ := 0) (r₂ := 0) (d₁ := 0) (d₂ := 0) (fd := fd)
    (by rw [duties_sc]; exact Finset.mem_singleton_self _) (by rw [duties_sc]; exact Finset.mem_singleton_self _)
    () () NV rfl (amount_vs m c j 0) (amount_vr m (fwd j c) j 0) O' rfl (W := W)
    (by rw [payload_vs]; unfold vPts; rw [← vS_set c])
    (by
      rw [payload_vr, bwd_fwd]; unfold vPts; rw [← vS_set c]
      exact Entails.of_eq (pointsTo_congr (landed_eq (vS c).view fd (Vown m c))))) $$ [Hs Hd HO Ht1 Hr1 Ht2 Hr2]
  · isplitr; · iapply (inv_sc m K c _); iexact HR
    isplitr; · iapply (inv_sc m K (fwd j c) _); iexact HR
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hcr, HO⟩
  iapply Hc
  isplitl [Hcr]; · iexact Hcr
  iexists W; iexact HO

/-- A wait on a copy semaphore, all sends made: what the round brings, and the semaphore back at zero. -/
theorem step_wait (i : Fin 12) (P : sProp 𝕄) (hP : (rd (F := F) m).payload (scCell c i) 0 0 = P) (N : ℕ)
    (hN : (rd (F := F) m).expect (scCell c i) 0 = N) (s : DmaSem sig) (hs : s = osem i)
    {sp sp' : Space} {z z' : Shape} {e e' : EltTy} {src : Memref sig (c : Thread nD τ).2.kind sp' z' e'} {κ' : Kind} {dst : Memref sig κ' sp z e}
    {hsrc : src.view.WordExact} {hdst : dst.view.WordExact} (hd : dst.view.dmaCredit = N)
    {α : Type} {Q : α → sProp 𝕄} {k : PUnit → Prog (TpuEff nD τ sig (Elt F) Λ₀ .tc) α} :
    iprop(recs m K ∗ oweE c 0 ∗ cred (tallyAt (scCell c i) () N) ∗ atPos ER (scCell c i) 0 ∅ 0)
      ⊢ iprop(((oweE c 0 ∗ P ∗ semVal (scCell c i) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs hd
  unfold oweE
  iintro ⟨#HR, ⟨%W, HO⟩, Hcr, Hat⟩ Hc
  iapply (Rounds.wp_wait_rest_token 𝒱₀ ER (rd m) (c : Thread nD τ) none (κ := K (scCell c i))
      (wpE_waitDma2_eq 𝒱₀ (c : Thread nD τ) none Set.univ) (Set.mem_univ _) () (O := 0) (W := W) (R := 0) (m := 0) (T := ∅)
      ((Nat.zero_add _).trans hN.symm)) $$ [Hcr HO Hat]
  · isplitr; · iapply (inv_sc m K c i); iexact HR
    isplitl [Hcr]; · iexact Hcr
    isplitl [HO]; · iexact HO
    isplitr; · rw [MayWait_zero]; iempintro
    iexact Hat
  iintro ⟨HO, Hat, -, Hpay⟩
  ihave Hp := (Entails.of_eq (rest_sc m c i P hP)) $$ Hpay
  imod (Rounds.cell_close ER (rd m) (Set.mem_univ (K (scCell c i))) (fun h => h) (R := 0 + 1) (duties_later m (scCell c i))) $$ [Hat] with Hz
  · isplitr; · iapply (inv_sc m K c i); iexact HR
    iexact Hat
  iapply Hc
  isplitl [HO]; · iexists _; iexact HO
  isplitl [Hp]; · iexact Hp
  iexact Hz

/-- The same for a wait that names a slot of the key buffer. -/
theorem step_waitK (i : Fin 12) (P : sProp 𝕄) (hP : (rd (F := F) m).payload (scCell c i) 0 0 = P)
    (hN : (rd (F := F) m).expect (scCell c i) 0 = NK) (s : DmaSem sig) (hs : s = osem i)
    {o : Fin 4 → ℕ} {ho : ∀ a, o a + S1x2x256x256.size a ≤ S4x2x256x256.size a}
    {hsrc : (((Memref.whole cc0_scratch0).slice (Rect.unit (s := S4x2x256x256) o S1x2x256x256.size ho) (fun _ => rfl)).squeeze S2x256x256 squeezes_S1x2x256x256_S2x256x256).view.WordExact}
    {hdst : (((Memref.whole cc0_scratch0).slice (Rect.unit (s := S4x2x256x256) o S1x2x256x256.size ho) (fun _ => rfl)).squeeze S2x256x256 squeezes_S1x2x256x256_S2x256x256).view.WordExact}
    {α : Type} {Q : α → sProp 𝕄} {k : PUnit → Prog (TpuEff nD τ sig (Elt F) Λ₀ .tc) α} :
    iprop(recs m K ∗ oweE c 0 ∗ cred (tallyAt (scCell c i) () NK) ∗ atPos ER (scCell c i) 0 ∅ 0)
      ⊢ iprop(((oweE c 0 ∗ P ∗ semVal (scCell c i) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s
            (((Memref.whole cc0_scratch0).slice (Rect.unit (s := S4x2x256x256) o S1x2x256x256.size ho) (fun _ => rfl)).squeeze S2x256x256 squeezes_S1x2x256x256_S2x256x256)
            (((Memref.whole cc0_scratch0).slice (Rect.unit (s := S4x2x256x256) o S1x2x256x256.size ho) (fun _ => rfl)).squeeze S2x256x256 squeezes_S1x2x256x256_S2x256x256) hsrc hdst) k) Q) :=
  step_wait m K c i P hP NK hN s hs (hsrc := hsrc) (hdst := hdst) rfl

/-- The same for a wait that names a slot of the value buffer. -/
theorem step_waitV (i : Fin 12) (P : sProp 𝕄) (hP : (rd (F := F) m).payload (scCell c i) 0 0 = P)
    (hN : (rd (F := F) m).expect (scCell c i) 0 = NV) (s : DmaSem sig) (hs : s = osem i)
    {o : Fin 4 → ℕ} {ho : ∀ a, o a + S1x2x256x256.size a ≤ S4x2x256x256.size a}
    {hsrc : (((Memref.whole cc0_scratch1).slice (Rect.unit (s := S4x2x256x256) o S1x2x256x256.size ho) (fun _ => rfl)).squeeze S2x256x256 squeezes_S1x2x256x256_S2x256x256).view.WordExact}
    {hdst : (((Memref.whole cc0_scratch1).slice (Rect.unit (s := S4x2x256x256) o S1x2x256x256.size ho) (fun _ => rfl)).squeeze S2x256x256 squeezes_S1x2x256x256_S2x256x256).view.WordExact}
    {α : Type} {Q : α → sProp 𝕄} {k : PUnit → Prog (TpuEff nD τ sig (Elt F) Λ₀ .tc) α} :
    iprop(recs m K ∗ oweE c 0 ∗ cred (tallyAt (scCell c i) () NV) ∗ atPos ER (scCell c i) 0 ∅ 0)
      ⊢ iprop(((oweE c 0 ∗ P ∗ semVal (scCell c i) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s
            (((Memref.whole cc0_scratch1).slice (Rect.unit (s := S4x2x256x256) o S1x2x256x256.size ho) (fun _ => rfl)).squeeze S2x256x256 squeezes_S1x2x256x256_S2x256x256)
            (((Memref.whole cc0_scratch1).slice (Rect.unit (s := S4x2x256x256) o S1x2x256x256.size ho) (fun _ => rfl)).squeeze S2x256x256 squeezes_S1x2x256x256_S2x256x256) hsrc hdst) k) Q) :=
  step_wait m K c i P hP NV hN s hs (hsrc := hsrc) (hdst := hdst) rfl

end Steps

end Cert.KProof

end
-- ==== Proof.Slots.lean ====
/-
# What the stores leave

A device stores its keys and values batch row by batch row in its own slot, and its result batch row by batch row.
-/
module

public import proofs.«01_k».proof.Proof.Steps

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The rectangle of one batch row of one slot. -/
abbrev rowR (o : Fin 4 → ℕ) (h : ∀ a, o a + S1x1x256x256.size a ≤ S4x2x256x256.size a) : Rect S4x2x256x256 :=
  Rect.unit (s := S4x2x256x256) o S1x1x256x256.size h

theorem mem_row {s b : ℕ} (o : Fin 4 → ℕ) (ho : o = ![s, b, 0, 0]) (h) (i : S4x2x256x256.Idx) :
    i ∈ (rowR o h).set ↔ (i 0).val = s ∧ (i 1).val = b := by
  subst ho
  rw [Rect.mem_set_unit]
  have h2 : (i 2).val < 256 := (i 2).isLt
  have h3 : (i 3).val < 256 := (i 3).isLt
  constructor
  · intro h
    have h0 := h 0
    have h1 := h 1
    change s ≤ (i 0).val ∧ (i 0).val < s + 1 at h0
    change b ≤ (i 1).val ∧ (i 1).val < b + 1 at h1
    omega
  · intro h a
    fin_cases a
    · show s ≤ (i 0).val ∧ (i 0).val < s + 1; omega
    · show b ≤ (i 1).val ∧ (i 1).val < b + 1; omega
    · show 0 ≤ (i 2).val ∧ (i 2).val < 0 + 256; omega
    · show 0 ≤ (i 3).val ∧ (i 3).val < 0 + 256; omega

/-- A row's element is the row's own at the index without its slot and batch coordinates. -/
theorem row_emb {s b : ℕ} (o : Fin 4 → ℕ) (ho : o = ![s, b, 0, 0]) (h) (i : S4x2x256x256.Idx) (h0 : (i 0).val = s) (h1 : (i 1).val = b) :
    (rowR o h).emb (inSlot i) = i := by
  subst ho
  funext a
  refine Fin.ext ?_
  fin_cases a
  · show s + 1 * 0 = (i 0).val; omega
  · show b + 1 * 0 = (i 1).val; omega
  · show 0 + 1 * (i 2).val = (i 2).val; omega
  · show 0 + 1 * (i 3).val = (i 3).val; omega

theorem row_sub {s b : ℕ} (d : Dev nD) (hd : d.val = s) (o : Fin 4 → ℕ) (ho : o = ![s, b, 0, 0]) (h) : (rowR o h).set ⊆ slotSet d :=
  fun i hi => (mem_slotSet d i).mpr (((mem_row o ho h i).mp hi).1.trans hd.symm)

theorem k_acc (o : Fin 4 → ℕ) (h) : ((Memref.whole cc0_scratch0).access (rowR o h)).set = (rowR o h).set := View.set_slice_whole _ _
theorem v_acc (o : Fin 4 → ℕ) (h) : ((Memref.whole cc0_scratch1).access (rowR o h)).set = (rowR o h).set := View.set_slice_whole _ _

/-- Two rows stored in the key buffer, read at an element of the slot. -/
theorem k_store2 {s : ℕ} (o o' : Fin 4 → ℕ) (ho : o = ![s, 0, 0, 0]) (ho' : o' = ![s, 1, 0, 0]) (h h') (f : cc0_scratch0.ty.Contents (Elt F))
    (w w' : S1x1x256x256.Idx → Elt F .fp8e4m3) (i : S4x2x256x256.Idx) (h0 : (i 0).val = s) :
    ((Memref.whole cc0_scratch0).access (rowR o' h')).write (Elt F) (((Memref.whole cc0_scratch0).access (rowR o h)).write (Elt F) f w Finset.univ) w' Finset.univ i
      = if (i 1).val = 0 then w (inSlot i) else w' (inSlot i) := by
  have h1 : (i 1).val < 2 := (i 1).isLt
  split
  · rename_i hb
    rw [View.write_of_not_mem _ _ _ (by
      rw [View.setOn_univ, k_acc]
      exact fun hi => by have := ((mem_row o' ho' h' i).mp hi).2; omega)]
    have e := View.write_emb_of_mem (v := (Memref.whole cc0_scratch0).access (rowR o h)) (Val := Elt F) f w (Finset.mem_univ (inSlot i))
    rw [show ((Memref.whole cc0_scratch0).access (rowR o h)).emb (inSlot i) = i from row_emb o ho h i h0 hb] at e
    exact e
  · rename_i hb
    have e := View.write_emb_of_mem (v := (Memref.whole cc0_scratch0).access (rowR o' h')) (Val := Elt F)
      (((Memref.whole cc0_scratch0).access (rowR o h)).write (Elt F) f w Finset.univ) w' (Finset.mem_univ (inSlot i))
    rw [show ((Memref.whole cc0_scratch0).access (rowR o' h')).emb (inSlot i) = i from row_emb o' ho' h' i h0 (by omega)] at e
    exact e
/-- Two rows stored in the value buffer, read at an element of the slot. -/
theorem v_store2 {s : ℕ} (o o' : Fin 4 → ℕ) (ho : o = ![s, 0, 0, 0]) (ho' : o' = ![s, 1, 0, 0]) (h h') (f : cc0_scratch1.ty.Contents (Elt F))
    (w w' : S1x1x256x256.Idx → Elt F .bf16) (i : S4x2x256x256.Idx) (h0 : (i 0).val = s) :
    ((Memref.whole cc0_scratch1).access (rowR o' h')).write (Elt F) (((Memref.whole cc0_scratch1).access (rowR o h)).write (Elt F) f w Finset.univ) w' Finset.univ i
      = if (i 1).val = 0 then w (inSlot i) else w' (inSlot i) := by
  have h1 : (i 1).val < 2 := (i 1).isLt
  split
  · rename_i hb
    rw [View.write_of_not_mem _ _ _ (by
      rw [View.setOn_univ, v_acc]
      exact fun hi => by have := ((mem_row o' ho' h' i).mp hi).2; omega)]
    have e := View.write_emb_of_mem (v := (Memref.whole cc0_scratch1).access (rowR o h)) (Val := Elt F) f w (Finset.mem_univ (inSlot i))
    rw [show ((Memref.whole cc0_scratch1).access (rowR o h)).emb (inSlot i) = i from row_emb o ho h i h0 hb] at e
    exact e
  · rename_i hb
    have e := View.write_emb_of_mem (v := (Memref.whole cc0_scratch1).access (rowR o' h')) (Val := Elt F)
      (((Memref.whole cc0_scratch1).access (rowR o h)).write (Elt F) f w Finset.univ) w' (Finset.mem_univ (inSlot i))
    rw [show ((Memref.whole cc0_scratch1).access (rowR o' h')).emb (inSlot i) = i from row_emb o' ho' h' i h0 (by omega)] at e
    exact e

/-! ## The result -/

/-- A result element's index with the batch coordinate dropped. -/
def inRow (i : S2x256x512.Idx) : S1x256x512.Idx := ix3 (0 : Fin 1) (i 1 : Fin 256) (i 2 : Fin 512)

/-- What the kernel leaves in its result block on device `c`. -/
def outAt (m : Mem F) (c : Dev nD) : cc0_stg5_0.ty.Contents (Elt F) := fun i : S2x256x512.Idx =>
  if (i 0).val = 0 then out0 m c (inRow i) else out1 m c (inRow i)

abbrev outR0 : Rect S2x256x512 := Rect.unit (s := S2x256x512) ![0, 0, 0] S1x256x512.size inb_S2x256x512_S1x256x512_0_0_0
abbrev outR1 : Rect S2x256x512 := Rect.unit (s := S2x256x512) ![1, 0, 0] S1x256x512.size inb_S2x256x512_S1x256x512_1_0_0

/-- The two batch rows stored are the whole block. -/
theorem out_store2 (m : Mem F) (c : Dev nD) (f : cc0_stg5_0.ty.Contents (Elt F)) :
    ((Memref.whole cc0_stg5_0).access outR1).write (Elt F) (((Memref.whole cc0_stg5_0).access outR0).write (Elt F) f (out0 m c) Finset.univ) (out1 m c) Finset.univ
      = outAt m c := by
  funext i
  have h1 : ((i : S2x256x512.Idx) 0).val < 2 := ((i : S2x256x512.Idx) 0).isLt
  unfold outAt
  split
  · rename_i hb
    rw [View.write_of_not_mem _ _ _ (by
      rw [View.setOn_univ, show ((Memref.whole cc0_stg5_0).access outR1).set = outR1.set from View.set_slice_whole _ _, Rect.mem_set_unit]
      exact fun hi => by
        have := (hi (0 : Fin 3)).1
        change 1 ≤ ((i : S2x256x512.Idx) 0).val at this
        omega)]
    have e := View.write_emb_of_mem (v := (Memref.whole cc0_stg5_0).access outR0) (Val := Elt F) f (out0 m c) (Finset.mem_univ (inRow i))
    rw [show ((Memref.whole cc0_stg5_0).access outR0).emb (inRow i) = i from by
      funext a
      refine Fin.ext ?_
      fin_cases a
      · show 0 + 1 * 0 = ((i : S2x256x512.Idx) 0).val; omega
      · show 0 + 1 * ((i : S2x256x512.Idx) 1).val = ((i : S2x256x512.Idx) 1).val; omega
      · show 0 + 1 * ((i : S2x256x512.Idx) 2).val = ((i : S2x256x512.Idx) 2).val; omega] at e
    exact e
  · rename_i hb
    have e := View.write_emb_of_mem (v := (Memref.whole cc0_stg5_0).access outR1) (Val := Elt F)
      (((Memref.whole cc0_stg5_0).access outR0).write (Elt F) f (out0 m c) Finset.univ) (out1 m c) (Finset.mem_univ (inRow i))
    rw [show ((Memref.whole cc0_stg5_0).access outR1).emb (inRow i) = i from by
      funext a
      refine Fin.ext ?_
      fin_cases a
      · show 1 + 1 * 0 = ((i : S2x256x512.Idx) 0).val; omega
      · show 0 + 1 * ((i : S2x256x512.Idx) 1).val = ((i : S2x256x512.Idx) 1).val; omega
      · show 0 + 1 * ((i : S2x256x512.Idx) 2).val = ((i : S2x256x512.Idx) 2).val; omega] at e
    exact e

end Cert.KProof

end
-- ==== Proof.Body1.lean ====
/-
# The body of one device, part by part: the stores and the exchange

The first parts of the body: the device's own keys and values stored in its own slots, the entry, and the six copies.
-/
module

public import proofs.«01_k».proof.Proof.Slots

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (m : Mem F) (K : GSem nD τ sig → ℕ) (c : Dev nD)

/-- The first part: the device's own slots are filled. -/
theorem part1 (Kt : (Σ' (_ : Dev nD), BitVec 32) → sProp 𝕄) :
    iprop(((c : Thread nD τ).loc cc0_stg2_0 ↦{fullShare} X2 m c) ∗ ((c : Thread nD τ).loc cc0_stg3_0 ↦{fullShare} X3 m c) ∗ (∃ f, kPts (F := F) c c fullShare f) ∗ (∃ f, vPts (F := F) c c fullShare f)
        ∗ (∀ r, (⌜r = ⟨c, v2 c⟩⌝ ∗ ((c : Thread nD τ).loc cc0_stg2_0 ↦{fullShare} X2 m c) ∗ ((c : Thread nD τ).loc cc0_stg3_0 ↦{fullShare} X3 m c) ∗ kPts c c fullShare (Kown m c) ∗ vPts c c fullShare (Vown m c)) -∗ Kt r))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) Kt := by
  rw [k0_part1_eq_skeleton]; unfold k0_part1_skel
  simp only [Prog.lift, Prog.bind_op, Prog.bind_ret, Prog.pure_eq_ret, wp_deviceId]
  unfold kPts vPts
  iintro ⟨H2, H3, ⟨%fk, Hk⟩, ⟨%fv, Hv⟩, HK⟩
  iapply (wp_load_rect 𝒱₀ (c : Thread nD τ) none Set.univ (m := Memref.whole cc0_stg2_0) (r := Rect.unit (s := S2x256x256) ![0, 0, 0] S1x256x256.size inb_S2x256x256_S1x256x256_0_0_0) (Finset.subset_univ _)) $$ H2; iintro H2
  iapply (wp_load_rect 𝒱₀ (c : Thread nD τ) none Set.univ (m := Memref.whole cc0_scratch0) (r := rowR (k0_off1 c) (k0_off1_inb c)) (by rw [k_acc]; exact row_sub c rfl _ (off1_eq c) _)) $$ Hk; iintro Hk
  iapply (wp_store 𝒱₀ (c : Thread nD τ) none Set.univ (m := Memref.whole cc0_scratch0) (r := rowR (k0_off1 c) (k0_off1_inb c)) (by rw [View.setOn_univ, k_acc]; exact row_sub c rfl _ (off1_eq c) _)) $$ Hk; iintro Hk
  iapply (wp_load_rect 𝒱₀ (c : Thread nD τ) none Set.univ (m := Memref.whole cc0_stg3_0) (r := Rect.unit (s := S2x256x256) ![0, 0, 0] S1x256x256.size inb_S2x256x256_S1x256x256_0_0_0) (Finset.subset_univ _)) $$ H3; iintro H3
  iapply (wp_load_rect 𝒱₀ (c : Thread nD τ) none Set.univ (m := Memref.whole cc0_scratch1) (r := rowR (k0_off1 c) (k0_off1_inb c)) (by rw [v_acc]; exact row_sub c rfl _ (off1_eq c) _)) $$ Hv; iintro Hv
  iapply (wp_store 𝒱₀ (c : Thread nD τ) none Set.univ (m := Memref.whole cc0_scratch1) (r := rowR (k0_off1 c) (k0_off1_inb c)) (by rw [View.setOn_univ, v_acc]; exact row_sub c rfl _ (off1_eq c) _)) $$ Hv; iintro Hv
  iapply (wp_load_rect 𝒱₀ (c : Thread nD τ) none Set.univ (m := Memref.whole cc0_stg2_0) (r := Rect.unit (s := S2x256x256) ![1, 0, 0] S1x256x256.size inb_S2x256x256_S1x256x256_1_0_0) (Finset.subset_univ _)) $$ H2; iintro H2
  iapply (wp_load_rect 𝒱₀ (c : Thread nD τ) none Set.univ (m := Memref.whole cc0_scratch0) (r := rowR (k0_off2 c) (k0_off2_inb c)) (by rw [k_acc]; exact row_sub c rfl _ (off2_eq c) _)) $$ Hk; iintro Hk
  iapply (wp_store 𝒱₀ (c : Thread nD τ) none Set.univ (m := Memref.whole cc0_scratch0) (r := rowR (k0_off2 c) (k0_off2_inb c)) (by rw [View.setOn_univ, k_acc]; exact row_sub c rfl _ (off2_eq c) _)) $$ Hk; iintro Hk
  iapply (wp_load_rect 𝒱₀ (c : Thread nD τ) none Set.univ (m := Memref.whole cc0_stg3_0) (r := Rect.unit (s := S2x256x256) ![1, 0, 0] S1x256x256.size inb_S2x256x256_S1x256x256_1_0_0) (Finset.subset_univ _)) $$ H3; iintro H3
  iapply (wp_load_rect 𝒱₀ (c : Thread nD τ) none Set.univ (m := Memref.whole cc0_scratch1) (r := rowR (k0_off2 c) (k0_off2_inb c)) (by rw [v_acc]; exact row_sub c rfl _ (off2_eq c) _)) $$ Hv; iintro Hv
  iapply (wp_store 𝒱₀ (c : Thread nD τ) none Set.univ (m := Memref.whole cc0_scratch1) (r := rowR (k0_off2 c) (k0_off2_inb c)) (by rw [View.setOn_univ, v_acc]; exact row_sub c rfl _ (off2_eq c) _)) $$ Hv; iintro Hv
  rw [wp_ret]; imodintro
  iapply HK
  isplitr; · (ipureintro; rfl)
  isplitl [H2]; · iexact H2
  isplitl [H3]; · iexact H3
  isplitl [Hk]
  · iapply (Entails.of_eq (pointsTo_congr (q := fullShare) (f := ((Memref.whole cc0_scratch0).access (rowR (k0_off2 c) (k0_off2_inb c))).write (Elt F) (((Memref.whole cc0_scratch0).access (rowR (k0_off1 c) (k0_off1_inb c))).write (Elt F) fk (k0_pay1 (v3 m c)) Finset.univ) (k0_pay3 (v16 m c)) Finset.univ)
        (fun i hi => k_store2 (k0_off1 c) (k0_off2 c) (off1_eq c) (off2_eq c) (k0_off1_inb c) (k0_off2_inb c) fk (k0_pay1 (v3 m c)) (k0_pay3 (v16 m c)) i ((mem_slotSet c i).mp hi)))) $$ Hk
  · iapply (Entails.of_eq (pointsTo_congr (q := fullShare) (f := ((Memref.whole cc0_scratch1).access (rowR (k0_off2 c) (k0_off2_inb c))).write (Elt F) (((Memref.whole cc0_scratch1).access (rowR (k0_off1 c) (k0_off1_inb c))).write (Elt F) fv (k0_pay2 (v10 m c)) Finset.univ) (k0_pay4 (v23 m c)) Finset.univ)
        (fun i hi => v_store2 (k0_off1 c) (k0_off2 c) (off1_eq c) (off2_eq c) (k0_off1_inb c) (k0_off2_inb c) fv (k0_pay2 (v10 m c)) (k0_pay4 (v23 m c)) i ((mem_slotSet c i).mp hi)))) $$ Hv

/-- The entry and the first copy of the keys. -/
theorem part2 (Kt : BitVec 32 → sProp 𝕄) :
    iprop((recs m K ∗ levAts L lv) ∗ oweE c (O₀ c)
        ∗ ((dutyTok ER (barCell (fwd 0 c)) 0 0 ∗ dutyTok ER (barCell (fwd 1 c)) 0 1 ∗ dutyTok ER (barCell (fwd 2 c)) 0 2)
          ∗ ((∃ f, kPts (F := F) c (fwd 0 c) fullShare f) ∗ (∃ f, vPts (F := F) c (fwd 0 c) fullShare f) ∗ (∃ f, kPts (F := F) c (fwd 1 c) fullShare f) ∗ (∃ f, vPts (F := F) c (fwd 1 c) fullShare f) ∗ (∃ f, kPts (F := F) c (fwd 2 c) fullShare f) ∗ (∃ f, vPts (F := F) c (fwd 2 c) fullShare f))
          ∗ (reached ER (krCell c 0) 0 ∗ reached ER (krCell c 1) 0 ∗ reached ER (krCell c 2) 0)
          ∗ (reached ER (vrCell c 0) 0 ∗ reached ER (vrCell c 1) 0 ∗ reached ER (vrCell c 2) 0))
        ∗ (cred (tallyAt (barCell c) () 3) ∗ atPos ER (barCell c) 0 ∅ 0)
        ∗ (kPts c c (sh 0) (Kown m c) ∗ dutyTok ER (ksCell c 0) 0 0 ∗ reached ER (ksCell c 0) 0 ∗ dutyTok ER (krCell (fwd 0 c) 0) 0 0)
        ∗ ((oweE c (OK1 c) ∗ atPos ER (barCell c) (0 + 1) ∅ 0 ∗ cred (tallyAt (ksCell c 0) () NK)
            ∗ ((∃ f, vPts (F := F) (fwd 0 c) c fullShare f) ∗ reached ER (vrCell (fwd 0 c) 0) 0)
            ∗ peerSlot (fwd 1 c) c 1 ∗ peerSlot (fwd 2 c) c 2) -∗ Kt 2#32))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c)) Kt := by
  rw [k0_part2_eq_skeleton]; unfold k0_part2_skel
  iintro ⟨⟨#HR, #Hlev⟩, HO, ⟨⟨Hb0, Hb1, Hb2⟩, ⟨Hks0, Hvs0, Hks1, Hvs1, Hks2, Hvs2⟩, ⟨Hkr0, Hkr1, Hkr2⟩, ⟨Hvr0, Hvr1, Hvr2⟩⟩, ⟨HcB, HatB⟩, ⟨Hs0, Hts0, Hrs0, Htr0⟩, HK⟩
  iapply (step_signal m K c 0 _ (dev1_eq c) (O₀ c) (OB1 c) rfl) $$ [HO Hb0 Hks0 Hvs0 Hkr2 Hvr2]
  · isplitr; · iexact HR
    isplitl [HO]; · iexact HO
    isplitl [Hb0]; · iexact Hb0
    isplitl [Hks0]; · iexact Hks0
    isplitl [Hvs0]; · iexact Hvs0
    isplitl [Hkr2]; · iexact Hkr2
    iexact Hvr2
  iintro HO
  iapply (step_signal m K c 1 _ (dev2_eq c) (OB1 c) (OB2 c) rfl) $$ [HO Hb1 Hks1 Hvs1 Hkr1 Hvr1]
  · isplitr; · iexact HR
    isplitl [HO]; · iexact HO
    isplitl [Hb1]; · iexact Hb1
    isplitl [Hks1]; · iexact Hks1
    isplitl [Hvs1]; · iexact Hvs1
    isplitl [Hkr1]; · iexact Hkr1
    iexact Hvr1
  iintro HO
  iapply (step_signal m K c 2 _ (dev3_eq c) (OB2 c) (OK0 c) rfl) $$ [HO Hb2 Hks2 Hvs2 Hkr0 Hvr0]
  · isplitr; · iexact HR
    isplitl [HO]; · iexact HO
    isplitl [Hb2]; · iexact Hb2
    isplitl [Hks2]; · iexact Hks2
    isplitl [Hvs2]; · iexact Hvs2
    isplitl [Hkr0]; · iexact Hkr0
    iexact Hvr0
  iintro HO
  iapply (step_barrier m K c) $$ [HO HcB HatB]
  · isplitr; · iexact HR
    isplitr; · iexact Hlev
    isplitl [HO]; · iexact HO
    isplitl [HcB]; · iexact HcB
    iexact HatB
  iintro ⟨HO, HatB, Hp0, Hp1, Hp2⟩
  simp only [Prog.lift, Prog.bind_op, Prog.bind_ret, Prog.pure_eq_ret]
  unfold peerSlot
  icases Hp0 with ⟨Hd0, Hdv0, Hrr0, Hrv0⟩
  iapply (step_sendK m K c 0 _ (dev4_eq c) _ _ rfl rfl (OK0 c) (OK1 c) rfl) $$ [Hs0 Hd0 HO Hts0 Hrs0 Htr0 Hrr0]
  · isplitr; · iexact HR
    isplitl [Hs0]; · iexact Hs0
    isplitl [Hd0]; · iexact Hd0
    isplitl [HO]; · iexact HO
    isplitl [Hts0]; · iexact Hts0
    isplitl [Hrs0]; · iexact Hrs0
    isplitl [Htr0]; · iexact Htr0
    iexact Hrr0
  iintro ⟨Hc0, HO⟩
  rw [wp_ret]; imodintro
  iapply HK
  isplitl [HO]; · iexact HO
  isplitl [HatB]; · iexact HatB
  isplitl [Hc0]; · iexact Hc0
  isplitl [Hdv0 Hrv0]
  · isplitl [Hdv0]; · iexact Hdv0
    iexact Hrv0
  isplitl [Hp1]; · iexact Hp1
  iexact Hp2

/-- The other two copies of the keys. -/
theorem part3 (Kt : PUnit → sProp 𝕄) :
    iprop(recs m K ∗ oweE c (OK1 c) ∗ (kPts c c (sh 1) (Kown m c) ∗ (∃ f, kPts (F := F) (fwd 1 c) c fullShare f) ∗ dutyTok ER (ksCell c 1) 0 0 ∗ reached ER (ksCell c 1) 0 ∗ dutyTok ER (krCell (fwd 1 c) 1) 0 0 ∗ reached ER (krCell (fwd 1 c) 1) 0) ∗ (kPts c c (sh 2) (Kown m c) ∗ (∃ f, kPts (F := F) (fwd 2 c) c fullShare f) ∗ dutyTok ER (ksCell c 2) 0 0 ∗ reached ER (ksCell c 2) 0 ∗ dutyTok ER (krCell (fwd 2 c) 2) 0 0 ∗ reached ER (krCell (fwd 2 c) 2) 0)
        ∗ ((oweE c (OV0 c) ∗ cred (tallyAt (ksCell c 1) () NK) ∗ cred (tallyAt (ksCell c 2) () NK)) -∗ Kt ⟨⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c) 2#32) Kt := by
  rw [k0_part3_eq_skeleton]; unfold k0_part3_skel
  simp only [Prog.lift, Prog.bind_op, Prog.bind_ret, Prog.pure_eq_ret]
  iintro ⟨#HR, HO, ⟨Hs1, Hd1, Hts1, Hrs1, Htr1, Hrr1⟩, ⟨Hs2, Hd2, Hts2, Hrs2, Htr2, Hrr2⟩, HK⟩
  iapply (step_sendK m K c 1 _ (dev5_eq c) _ _ rfl rfl (OK1 c) (OK2 c) rfl) $$ [Hs1 Hd1 HO Hts1 Hrs1 Htr1 Hrr1]
  · isplitr; · iexact HR
    isplitl [Hs1]; · iexact Hs1
    isplitl [Hd1]; · iexact Hd1
    isplitl [HO]; · iexact HO
    isplitl [Hts1]; · iexact Hts1
    isplitl [Hrs1]; · iexact Hrs1
    isplitl [Htr1]; · iexact Htr1
    iexact Hrr1
  iintro ⟨Hc1, HO⟩
  iapply (step_sendK m K c 2 _ (dev6_eq c) _ _ rfl rfl (OK2 c) (OV0 c) rfl) $$ [Hs2 Hd2 HO Hts2 Hrs2 Htr2 Hrr2]
  · isplitr; · iexact HR
    isplitl [Hs2]; · iexact Hs2
    isplitl [Hd2]; · iexact Hd2
    isplitl [HO]; · iexact HO
    isplitl [Hts2]; · iexact Hts2
    isplitl [Hrs2]; · iexact Hrs2
    isplitl [Htr2]; · iexact Htr2
    iexact Hrr2
  iintro ⟨Hc2, HO⟩
  rw [wp_ret]; imodintro
  iapply HK
  isplitl [HO]; · iexact HO
  isplitl [Hc1]; · iexact Hc1
  iexact Hc2

/-- Two copies of the values. -/
theorem part4 (Kt : PUnit → sProp 𝕄) :
    iprop(recs m K ∗ oweE c (OV0 c) ∗ (vPts c c (sh 0) (Vown m c) ∗ (∃ f, vPts (F := F) (fwd 0 c) c fullShare f) ∗ dutyTok ER (vsCell c 0) 0 0 ∗ reached ER (vsCell c 0) 0 ∗ dutyTok ER (vrCell (fwd 0 c) 0) 0 0 ∗ reached ER (vrCell (fwd 0 c) 0) 0) ∗ (vPts c c (sh 1) (Vown m c) ∗ (∃ f, vPts (F := F) (fwd 1 c) c fullShare f) ∗ dutyTok ER (vsCell c 1) 0 0 ∗ reached ER (vsCell c 1) 0 ∗ dutyTok ER (vrCell (fwd 1 c) 1) 0 0 ∗ reached ER (vrCell (fwd 1 c) 1) 0)
        ∗ ((oweE c (OV2 c) ∗ cred (tallyAt (vsCell c 0) () NV) ∗ cred (tallyAt (vsCell c 1) () NV)) -∗ Kt ⟨⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c)) Kt := by
  rw [k0_part4_eq_skeleton]; unfold k0_part4_skel
  simp only [Prog.lift, Prog.bind_op, Prog.bind_ret, Prog.pure_eq_ret]
  iintro ⟨#HR, HO, ⟨Hs0, Hd0, Hts0, Hrs0, Htr0, Hrr0⟩, ⟨Hs1, Hd1, Hts1, Hrs1, Htr1, Hrr1⟩, HK⟩
  iapply (step_sendV m K c 0 _ (dev7_eq c) _ _ rfl rfl (OV0 c) (OV1 c) rfl) $$ [Hs0 Hd0 HO Hts0 Hrs0 Htr0 Hrr0]
  · isplitr; · iexact HR
    isplitl [Hs0]; · iexact Hs0
    isplitl [Hd0]; · iexact Hd0
    isplitl [HO]; · iexact HO
    isplitl [Hts0]; · iexact Hts0
    isplitl [Hrs0]; · iexact Hrs0
    isplitl [Htr0]; · iexact Htr0
    iexact Hrr0
  iintro ⟨Hc0, HO⟩
  iapply (step_sendV m K c 1 _ (dev8_eq c) _ _ rfl rfl (OV1 c) (OV2 c) rfl) $$ [Hs1 Hd1 HO Hts1 Hrs1 Htr1 Hrr1]
  · isplitr; · iexact HR
    isplitl [Hs1]; · iexact Hs1
    isplitl [Hd1]; · iexact Hd1
    isplitl [HO]; · iexact HO
    isplitl [Hts1]; · iexact Hts1
    isplitl [Hrs1]; · iexact Hrs1
    isplitl [Htr1]; · iexact Htr1
    iexact Hrr1
  iintro ⟨Hc1, HO⟩
  rw [wp_ret]; imodintro
  iapply HK
  isplitl [HO]; · iexact HO
  isplitl [Hc0]; · iexact Hc0
  iexact Hc1

end Body

end Cert.KProof

end
-- ==== Proof.Body3.lean ====
/-
# The body of one device, part by part: the last keys and the values received
-/
module

public import proofs.«01_k».proof.Proof.Body1

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (m : Mem F) (K : GSem nD τ sig → ℕ) (c : Dev nD)

/-- Part 15 of the body. -/
theorem part15 (Kt : (Σ' (v544 : FVec F S256x256 .bf16) (v548 : FVec F S256x256 .bf16) (v563 : FVec F S256x256 .f32) (v571 : FVec F S256x1 .f32) (v572 : FVec F S256x256 .bf16), FVec F S256x256 .f32) → sProp 𝕄) :
    iprop(recs m K ∗ oweE c 0 ∗ (cred (tallyAt (krCell c 1) () NK) ∗ atPos ER (krCell c 1) 0 ∅ 0) ∗ (∀ r : Σ' (v544 : FVec F S256x256 .bf16) (v548 : FVec F S256x256 .bf16) (v563 : FVec F S256x256 .f32) (v571 : FVec F S256x1 .f32) (v572 : FVec F S256x256 .bf16), FVec F S256x256 .f32, (⌜r = ⟨(v544 m c), (v548 m c), (v563 m c), (v571 m c), (v572 m c), (v577 m c)⟩⌝ ∗ oweE c 0 ∗ kPts c (bwd 1 c) fullShare (Kown m (bwd 1 c)) ∗ semVal (krCell c 1) 0) -∗ Kt r))
      ⊢ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v123 m c) (v157 m c) (v182 m c) (v465 m c) (v532 m c)) Kt := by
  rw [k0_part15_eq_skeleton]; unfold k0_part15_skel
  simp only [Prog.lift, Prog.bind_op, Prog.bind_ret, Prog.pure_eq_ret]
  iintro ⟨#HR, HO, ⟨Hc0, Ha0⟩, HK⟩
  iapply (step_waitK m K c ⟨4, by decide⟩ _ (payload_kr m c 1 0) (expect_kr m c 1) _ rfl) $$ [HO Hc0 Ha0]
  · isplitr; · iexact HR
    isplitl [HO]; · iexact HO
    isplitl [Hc0]; · iexact Hc0
    iexact Ha0
  iintro ⟨HO, Hp0, Hz0⟩
  unfold kPts
  iapply (wp_load_rect 𝒱₀ (c : Thread nD τ) none Set.univ (m := Memref.whole cc0_scratch0) (r := Rect.unit (s := S4x2x256x256) (k0_off5 c 2#32) S1x1x256x256.size (k0_off5_inb c 1)) (by rw [show ((Memref.whole cc0_scratch0).access (Rect.unit (s := S4x2x256x256) (k0_off5 c 2#32) S1x1x256x256.size (k0_off5_inb c 1))).set = (Rect.unit (s := S4x2x256x256) (k0_off5 c 2#32) S1x1x256x256.size (k0_off5_inb c 1)).set from View.set_slice_whole _ _]; exact row_sub (bwd 1 c) rfl _ (off5_eq c 1) _)) $$ Hp0; iintro Hp0
  iapply (wp_load_rect 𝒱₀ (c : Thread nD τ) none Set.univ (m := Memref.whole cc0_scratch0) (r := Rect.unit (s := S4x2x256x256) (k0_off6 c 2#32) S1x1x256x256.size (k0_off6_inb c 1)) (by rw [show ((Memref.whole cc0_scratch0).access (Rect.unit (s := S4x2x256x256) (k0_off6 c 2#32) S1x1x256x256.size (k0_off6_inb c 1))).set = (Rect.unit (s := S4x2x256x256) (k0_off6 c 2#32) S1x1x256x256.size (k0_off6_inb c 1)).set from View.set_slice_whole _ _]; exact row_sub (bwd 1 c) rfl _ (off6_eq c 1) _)) $$ Hp0; iintro Hp0
  rw [wp_ret]; imodintro
  iapply HK
  isplitr; · (ipureintro; rfl)
  isplitl [HO]; · iexact HO
  isplitl [Hp0]; · iexact Hp0
  iexact Hz0

/-- Part 16 of the body. -/
theorem part16 (Kt : (Σ' (v580 : FVec F S256x1 .f32) (v581 : FVec F S256x256 .bf16) (v589 : FVec F S256x1 .f32) (v590 : FVec F S256x256 .bf16) (v598 : FVec F S256x1 .f32) (v599 : FVec F S256x256 .bf16) (v607 : FVec F S256x1 .f32) (v608 : FVec F S256x256 .bf16) (v616 : FVec F S256x1 .f32) (v617 : FVec F S256x256 .bf16) (v625 : FVec F S256x1 .f32), FVec F S256x256 .bf16) → sProp 𝕄) :
    iprop((∀ r : Σ' (v580 : FVec F S256x1 .f32) (v581 : FVec F S256x256 .bf16) (v589 : FVec F S256x1 .f32) (v590 : FVec F S256x256 .bf16) (v598 : FVec F S256x1 .f32) (v599 : FVec F S256x256 .bf16) (v607 : FVec F S256x1 .f32) (v608 : FVec F S256x256 .bf16) (v616 : FVec F S256x1 .f32) (v617 : FVec F S256x256 .bf16) (v625 : FVec F S256x1 .f32), FVec F S256x256 .bf16, (⌜r = ⟨(v580 m c), (v581 m c), (v589 m c), (v590 m c), (v598 m c), (v599 m c), (v607 m c), (v608 m c), (v616 m c), (v617 m c), (v625 m c), (v626 m c)⟩⌝) -∗ Kt r))
      ⊢ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (v123 m c) (v129 m c) (v474 m c) (v483 m c) (v492 m c) (v501 m c) (v510 m c) (v519 m c) (v544 m c) (v548 m c) (v563 m c) (v577 m c)) Kt := by
  rw [k0_part16_eq_skeleton]; unfold k0_part16_skel
  simp only [Prog.lift, Prog.bind_op, Prog.bind_ret, Prog.pure_eq_ret]
  iintro HK
  rw [wp_ret]; imodintro
  iapply HK
  ipureintro; rfl

/-- Part 17 of the body. -/
theorem part17 (Kt : (Σ' (v634 : FVec F S256x1 .f32) (v635 : FVec F S256x256 .bf16) (v649 : FVec F S256x256 .bf16) (v652 : FVec F S256x256 .bf16) (v655 : FVec F S256x64 .f32) (v658 : FVec F S256x64 .f32), FVec F S256x64 .f32) → sProp 𝕄) :
    iprop(recs m K ∗ oweE c 0 ∗ (cred (tallyAt (vrCell c 0) () NV) ∗ atPos ER (vrCell c 0) 0 ∅ 0) ∗ (∀ r : Σ' (v634 : FVec F S256x1 .f32) (v635 : FVec F S256x256 .bf16) (v649 : FVec F S256x256 .bf16) (v652 : FVec F S256x256 .bf16) (v655 : FVec F S256x64 .f32) (v658 : FVec F S256x64 .f32), FVec F S256x64 .f32, (⌜r = ⟨(v634 m c), (v635 m c), (v649 m c), (v652 m c), (v655 m c), (v658 m c), (v661 m c)⟩⌝ ∗ oweE c 0 ∗ vPts c (bwd 0 c) fullShare (Vown m (bwd 0 c)) ∗ semVal (vrCell c 0) 0) -∗ Kt r))
      ⊢ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c) (v129 m c) (v296 m c) (v299 m c) (v302 m c) (v360 m c) (v369 m c) (v378 m c) (v528 m c) (v548 m c) (v563 m c)) Kt := by
  rw [k0_part17_eq_skeleton]; unfold k0_part17_skel
  simp only [Prog.lift, Prog.bind_op, Prog.bind_ret, Prog.pure_eq_ret]
  iintro ⟨#HR, HO, ⟨Hc0, Ha0⟩, HK⟩
  iapply (step_waitV m K c ⟨9, by decide⟩ _ (payload_vr m c 0 0) (expect_vr m c 0) _ rfl) $$ [HO Hc0 Ha0]
  · isplitr; · iexact HR
    isplitl [HO]; · iexact HO
    isplitl [Hc0]; · iexact Hc0
    iexact Ha0
  iintro ⟨HO, Hp0, Hz0⟩
  unfold vPts
  iapply (wp_load_rect 𝒱₀ (c : Thread nD τ) none Set.univ (m := Memref.whole cc0_scratch1) (r := Rect.unit (s := S4x2x256x256) (k0_off5 c 1#32) S1x1x256x256.size (k0_off5_inb c 0)) (by rw [show ((Memref.whole cc0_scratch1).access (Rect.unit (s := S4x2x256x256) (k0_off5 c 1#32) S1x1x256x256.size (k0_off5_inb c 0))).set = (Rect.unit (s := S4x2x256x256) (k0_off5 c 1#32) S1x1x256x256.size (k0_off5_inb c 0)).set from View.set_slice_whole _ _]; exact row_sub (bwd 0 c) rfl _ (off5_eq c 0) _)) $$ Hp0; iintro Hp0
  iapply (wp_load_rect 𝒱₀ (c : Thread nD τ) none Set.univ (m := Memref.whole cc0_scratch1) (r := Rect.unit (s := S4x2x256x256) (k0_off6 c 1#32) S1x1x256x256.size (k0_off6_inb c 0)) (by rw [show ((Memref.whole cc0_scratch1).access (Rect.unit (s := S4x2x256x256) (k0_off6 c 1#32) S1x1x256x256.size (k0_off6_inb c 0))).set = (Rect.unit (s := S4x2x256x256) (k0_off6 c 1#32) S1x1x256x256.size (k0_off6_inb c 0)).set from View.set_slice_whole _ _]; exact row_sub (bwd 0 c) rfl _ (off6_eq c 0) _)) $$ Hp0; iintro Hp0
  rw [wp_ret]; imodintro
  iapply HK
  isplitr; · (ipureintro; rfl)
  isplitl [HO]; · iexact HO
  isplitl [Hp0]; · iexact Hp0
  iexact Hz0

/-- Part 18 of the body. -/
theorem part18 (Kt : (Σ' (v664 : FVec F S256x64 .f32) (v667 : FVec F S256x64 .f32) (v670 : FVec F S256x64 .f32) (v673 : FVec F S256x64 .f32) (v676 : FVec F S256x64 .f32) (v690 : FVec F S256x256 .bf16) (v693 : FVec F S256x256 .bf16), FVec F S256x64 .f32) → sProp 𝕄) :
    iprop(recs m K ∗ oweE c 0 ∗ (cred (tallyAt (vrCell c 2) () NV) ∗ atPos ER (vrCell c 2) 0 ∅ 0) ∗ (∀ r : Σ' (v664 : FVec F S256x64 .f32) (v667 : FVec F S256x64 .f32) (v670 : FVec F S256x64 .f32) (v673 : FVec F S256x64 .f32) (v676 : FVec F S256x64 .f32) (v690 : FVec F S256x256 .bf16) (v693 : FVec F S256x256 .bf16), FVec F S256x64 .f32, (⌜r = ⟨(v664 m c), (v667 m c), (v670 m c), (v673 m c), (v676 m c), (v690 m c), (v693 m c), (v695 m c)⟩⌝ ∗ oweE c 0 ∗ vPts c (bwd 2 c) fullShare (Vown m (bwd 2 c)) ∗ semVal (vrCell c 2) 0) -∗ Kt r))
      ⊢ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c) (v305 m c) (v308 m c) (v311 m c) (v314 m c) (v317 m c) (v387 m c) (v396 m c) (v405 m c) (v414 m c) (v423 m c) (v466 m c) (v649 m c) (v652 m c)) Kt := by
  rw [k0_part18_eq_skeleton]; unfold k0_part18_skel
  simp only [Prog.lift, Prog.bind_op, Prog.bind_ret, Prog.pure_eq_ret]
  iintro ⟨#HR, HO, ⟨Hc0, Ha0⟩, HK⟩
  iapply (step_waitV m K c ⟨11, by decide⟩ _ (payload_vr m c 2 0) (expect_vr m c 2) _ rfl) $$ [HO Hc0 Ha0]
  · isplitr; · iexact HR
    isplitl [HO]; · iexact HO
    isplitl [Hc0]; · iexact Hc0
    iexact Ha0
  iintro ⟨HO, Hp0, Hz0⟩
  unfold vPts
  iapply (wp_load_rect 𝒱₀ (c : Thread nD τ) none Set.univ (m := Memref.whole cc0_scratch1) (r := Rect.unit (s := S4x2x256x256) (k0_off5 c 3#32) S1x1x256x256.size (k0_off5_inb c 2)) (by rw [show ((Memref.whole cc0_scratch1).access (Rect.unit (s := S4x2x256x256) (k0_off5 c 3#32) S1x1x256x256.size (k0_off5_inb c 2))).set = (Rect.unit (s := S4x2x256x256) (k0_off5 c 3#32) S1x1x256x256.size (k0_off5_inb c 2)).set from View.set_slice_whole _ _]; exact row_sub (bwd 2 c) rfl _ (off5_eq c 2) _)) $$ Hp0; iintro Hp0
  iapply (wp_load_rect 𝒱₀ (c : Thread nD τ) none Set.univ (m := Memref.whole cc0_scratch1) (r := Rect.unit (s := S4x2x256x256) (k0_off6 c 3#32) S1x1x256x256.size (k0_off6_inb c 2)) (by rw [show ((Memref.whole cc0_scratch1).access (Rect.unit (s := S4x2x256x256) (k0_off6 c 3#32) S1x1x256x256.size (k0_off6_inb c 2))).set = (Rect.unit (s := S4x2x256x256) (k0_off6 c 3#32) S1x1x256x256.size (k0_off6_inb c 2)).set from View.set_slice_whole _ _]; exact row_sub (bwd 2 c) rfl _ (off6_eq c 2) _)) $$ Hp0; iintro Hp0
  rw [wp_ret]; imodintro
  iapply HK
  isplitr; · (ipureintro; rfl)
  isplitl [HO]; · iexact HO
  isplitl [Hp0]; · iexact Hp0
  iexact Hz0

/-- Part 19 of the body. -/
theorem part19 (Kt : (Σ' (v696 : FVec F S256x64 .f32) (v699 : FVec F S256x64 .f32) (v702 : FVec F S256x64 .f32) (v705 : FVec F S256x64 .f32) (v708 : FVec F S256x64 .f32) (v711 : FVec F S256x64 .f32) (v714 : FVec F S256x64 .f32) (v717 : FVec F S256x64 .f32) (v720 : BitVec 32), FVec F S256x256 .bf16) → sProp 𝕄) :
    iprop(recs m K ∗ oweE c 0 ∗ (cred (tallyAt (vrCell c 1) () NV) ∗ atPos ER (vrCell c 1) 0 ∅ 0) ∗ (∀ r : Σ' (v696 : FVec F S256x64 .f32) (v699 : FVec F S256x64 .f32) (v702 : FVec F S256x64 .f32) (v705 : FVec F S256x64 .f32) (v708 : FVec F S256x64 .f32) (v711 : FVec F S256x64 .f32) (v714 : FVec F S256x64 .f32) (v717 : FVec F S256x64 .f32) (v720 : BitVec 32), FVec F S256x256 .bf16, (⌜r = ⟨(v696 m c), (v699 m c), (v702 m c), (v705 m c), (v708 m c), (v711 m c), (v714 m c), (v717 m c), (v720 m c), (v731 m c)⟩⌝ ∗ oweE c 0 ∗ vPts c (bwd 1 c) fullShare (Vown m (bwd 1 c)) ∗ semVal (vrCell c 1) 0) -∗ Kt r))
      ⊢ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c) (v475 m c) (v484 m c) (v493 m c) (v502 m c) (v511 m c) (v520 m c) (v529 m c) (v655 m c) (v658 m c) (v661 m c) (v664 m c) (v667 m c) (v670 m c) (v673 m c) (v676 m c) (v690 m c) (v693 m c) (v695 m c)) Kt := by
  rw [k0_part19_eq_skeleton]; unfold k0_part19_skel
  simp only [Prog.lift, Prog.bind_op, Prog.bind_ret, Prog.pure_eq_ret]
  iintro ⟨#HR, HO, ⟨Hc0, Ha0⟩, HK⟩
  iapply (step_waitV m K c ⟨10, by decide⟩ _ (payload_vr m c 1 0) (expect_vr m c 1) _ rfl) $$ [HO Hc0 Ha0]
  · isplitr; · iexact HR
    isplitl [HO]; · iexact HO
    isplitl [Hc0]; · iexact Hc0
    iexact Ha0
  iintro ⟨HO, Hp0, Hz0⟩
  unfold vPts
  iapply (wp_load_rect 𝒱₀ (c : Thread nD τ) none Set.univ (m := Memref.whole cc0_scratch1) (r := Rect.unit (s := S4x2x256x256) (k0_off5 c 2#32) S1x1x256x256.size (k0_off5_inb c 1)) (by rw [show ((Memref.whole cc0_scratch1).access (Rect.unit (s := S4x2x256x256) (k0_off5 c 2#32) S1x1x256x256.size (k0_off5_inb c 1))).set = (Rect.unit (s := S4x2x256x256) (k0_off5 c 2#32) S1x1x256x256.size (k0_off5_inb c 1)).set from View.set_slice_whole _ _]; exact row_sub (bwd 1 c) rfl _ (off5_eq c 1) _)) $$ Hp0; iintro Hp0
  rw [wp_ret]; imodintro
  iapply HK
  isplitr; · (ipureintro; rfl)
  isplitl [HO]; · iexact HO
  isplitl [Hp0]; · iexact Hp0
  iexact Hz0

/-- Part 20 of the body. -/
theorem part20 (Kt : (Σ' (v752 : FVec F S256x64 .f32) (v755 : FVec F S256x64 .f32) (v758 : FVec F S256x64 .f32) (v774 : FVec F S256x64 .f32), FVec F S256x64 .f32) → sProp 𝕄) :
    iprop(vPts c (bwd 1 c) fullShare (Vown m (bwd 1 c)) ∗ (∃ f, (c : Thread nD τ).loc cc0_stg5_0 ↦{fullShare} f) ∗ (∀ r : Σ' (v752 : FVec F S256x64 .f32) (v755 : FVec F S256x64 .f32) (v758 : FVec F S256x64 .f32) (v774 : FVec F S256x64 .f32), FVec F S256x64 .f32, (⌜r = ⟨(v752 m c), (v755 m c), (v758 m c), (v774 m c), (v775 m c)⟩⌝ ∗ vPts c (bwd 1 c) fullShare (Vown m (bwd 1 c)) ∗ (∃ f, (c : Thread nD τ).loc cc0_stg5_0 ↦{fullShare} (((Memref.whole cc0_stg5_0).access outR0).write (Elt F) f (out0 m c) Finset.univ))) -∗ Kt r))
      ⊢ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v117 m c) (v571 m c) (v572 m c) (v580 m c) (v581 m c) (v589 m c) (v590 m c) (v598 m c) (v599 m c) (v607 m c) (v608 m c) (v616 m c) (v617 m c) (v626 m c) (v635 m c) (v696 m c) (v699 m c) (v702 m c) (v705 m c) (v708 m c) (v711 m c) (v714 m c) (v717 m c) (v720 m c) (v731 m c)) Kt := by
  rw [k0_part20_eq_skeleton]; unfold k0_part20_skel
  simp only [Prog.lift, Prog.bind_op, Prog.bind_ret, Prog.pure_eq_ret]
  iintro ⟨Hp0, ⟨%f5, H5⟩, HK⟩
  unfold vPts
  iapply (wp_load_rect 𝒱₀ (c : Thread nD τ) none Set.univ (m := Memref.whole cc0_scratch1) (r := Rect.unit (s := S4x2x256x256) (k0_off6 c 2#32) S1x1x256x256.size (k0_off6_inb c 1)) (by rw [show ((Memref.whole cc0_scratch1).access (Rect.unit (s := S4x2x256x256) (k0_off6 c 2#32) S1x1x256x256.size (k0_off6_inb c 1))).set = (Rect.unit (s := S4x2x256x256) (k0_off6 c 2#32) S1x1x256x256.size (k0_off6_inb c 1)).set from View.set_slice_whole _ _]; exact row_sub (bwd 1 c) rfl _ (off6_eq c 1) _)) $$ Hp0; iintro Hp0
  iapply (wp_load_rect 𝒱₀ (c : Thread nD τ) none Set.univ (m := Memref.whole cc0_stg5_0) (r := Rect.unit (s := S2x256x512) ![0, 0, 0] S1x256x512.size inb_S2x256x512_S1x256x512_0_0_0) (Finset.subset_univ _)) $$ H5; iintro H5
  iapply (wp_store 𝒱₀ (c : Thread nD τ) none Set.univ (m := Memref.whole cc0_stg5_0) (r := Rect.unit (s := S2x256x512) ![0, 0, 0] S1x256x512.size inb_S2x256x512_S1x256x512_0_0_0) (Finset.subset_univ _)) $$ H5; iintro H5
  rw [wp_ret]; imodintro
  iapply HK
  isplitr; · (ipureintro; rfl)
  isplitl [Hp0]; · iexact Hp0
  iexists f5; iexact H5

end Body

end Cert.KProof

end
-- ==== Proof.Body2.lean ====
/-
# The body of one device, part by part: the computation on its own keys, and the keys received
-/
module

public import proofs.«01_k».proof.Proof.Body1

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (m : Mem F) (K : GSem nD τ sig → ℕ) (c : Dev nD)

/-- Part 6 of the body. -/
theorem part6 (Kt : (Σ' (v157 : IVec S256x256 32) (v182 : IVec S256x256 32) (v183 : FVec F S256x1 .f32) (v184 : FVec F S256x1 .f32) (v185 : FVec F S256x1 .f32) (v186 : FVec F S256x1 .f32) (v187 : FVec F S256x1 .f32) (v188 : FVec F S256x1 .f32) (v189 : FVec F S256x1 .f32) (v190 : FVec F S256x1 .f32), FVec F S256x64 .f32) → sProp 𝕄) :
    iprop((∀ r : Σ' (v157 : IVec S256x256 32) (v182 : IVec S256x256 32) (v183 : FVec F S256x1 .f32) (v184 : FVec F S256x1 .f32) (v185 : FVec F S256x1 .f32) (v186 : FVec F S256x1 .f32) (v187 : FVec F S256x1 .f32) (v188 : FVec F S256x1 .f32) (v189 : FVec F S256x1 .f32) (v190 : FVec F S256x1 .f32), FVec F S256x64 .f32, (⌜r = ⟨(v157 m c), (v182 m c), (v183 m c), (v184 m c), (v185 m c), (v186 m c), (v187 m c), (v188 m c), (v189 m c), (v190 m c), (v191 m c)⟩⌝) -∗ Kt r))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (v130 m c) (v133 m c) (v147 m c) (v149 m c)) Kt := by
  rw [k0_part6_eq_skeleton]; unfold k0_part6_skel
  simp only [Prog.lift, Prog.bind_op, Prog.bind_ret, Prog.pure_eq_ret]
  iintro HK
  rw [wp_ret]; imodintro
  iapply HK
  ipureintro; rfl

/-- Part 7 of the body. -/
theorem part7 (Kt : (Σ' (v192 : FVec F S256x64 .f32) (v193 : FVec F S256x64 .f32) (v194 : FVec F S256x64 .f32) (v195 : FVec F S256x64 .f32) (v196 : FVec F S256x64 .f32) (v197 : FVec F S256x64 .f32) (v198 : FVec F S256x64 .f32) (v200 : FVec F S256x256 .bf16) (v202 : FVec F S256x256 .bf16) (v217 : FVec F S256x256 .f32) (v225 : FVec F S256x1 .f32) (v226 : FVec F S256x256 .bf16), FVec F S256x256 .f32) → sProp 𝕄) :
    iprop(((c : Thread nD τ).loc cc0_stg2_0 ↦{fullShare} X2 m c) ∗ (∀ r : Σ' (v192 : FVec F S256x64 .f32) (v193 : FVec F S256x64 .f32) (v194 : FVec F S256x64 .f32) (v195 : FVec F S256x64 .f32) (v196 : FVec F S256x64 .f32) (v197 : FVec F S256x64 .f32) (v198 : FVec F S256x64 .f32) (v200 : FVec F S256x256 .bf16) (v202 : FVec F S256x256 .bf16) (v217 : FVec F S256x256 .f32) (v225 : FVec F S256x1 .f32) (v226 : FVec F S256x256 .bf16), FVec F S256x256 .f32, (⌜r = ⟨(v192 m c), (v193 m c), (v194 m c), (v195 m c), (v196 m c), (v197 m c), (v198 m c), (v200 m c), (v202 m c), (v217 m c), (v225 m c), (v226 m c), (v231 m c)⟩⌝ ∗ ((c : Thread nD τ).loc cc0_stg2_0 ↦{fullShare} X2 m c)) -∗ Kt r))
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (v2 c) (v123 m c) (v157 m c) (v182 m c) (v183 m c)) Kt := by
  rw [k0_part7_eq_skeleton]; unfold k0_part7_skel
  simp only [Prog.lift, Prog.bind_op, Prog.bind_ret, Prog.pure_eq_ret]
  iintro ⟨H2, HK⟩
  iapply (wp_load_rect 𝒱₀ (c : Thread nD τ) none Set.univ (m := Memref.whole cc0_stg2_0) (r := Rect.unit (s := S2x256x256) ![0, 0, 0] S1x256x256.size inb_S2x256x256_S1x256x256_0_0_0) (Finset.subset_univ _)) $$ H2; iintro H2
  iapply (wp_load_rect 𝒱₀ (c : Thread nD τ) none Set.univ (m := Memref.whole cc0_stg2_0) (r := Rect.unit (s := S2x256x256) ![1, 0, 0] S1x256x256.size inb_S2x256x256_S1x256x256_1_0_0) (Finset.subset_univ _)) $$ H2; iintro H2
  rw [wp_ret]; imodintro
  iapply HK
  isplitr; · (ipureintro; rfl)
  iexact H2

/-- Part 8 of the body. -/
theorem part8 (Kt : (Σ' (v234 : FVec F S256x1 .f32) (v235 : FVec F S256x256 .bf16) (v243 : FVec F S256x1 .f32) (v244 : FVec F S256x256 .bf16) (v252 : FVec F S256x1 .f32) (v253 : FVec F S256x256 .bf16) (v261 : FVec F S256x1 .f32) (v262 : FVec F S256x256 .bf16) (v270 : FVec F S256x1 .f32) (v271 : FVec F S256x256 .bf16) (v279 : FVec F S256x1 .f32), FVec F S256x256 .bf16) → sProp 𝕄) :
    iprop((∀ r : Σ' (v234 : FVec F S256x1 .f32) (v235 : FVec F S256x256 .bf16) (v243 : FVec F S256x1 .f32) (v244 : FVec F S256x256 .bf16) (v252 : FVec F S256x1 .f32) (v253 : FVec F S256x256 .bf16) (v261 : FVec F S256x1 .f32) (v262 : FVec F S256x256 .bf16) (v270 : FVec F S256x1 .f32) (v271 : FVec F S256x256 .bf16) (v279 : FVec F S256x1 .f32), FVec F S256x256 .bf16, (⌜r = ⟨(v234 m c), (v235 m c), (v243 m c), (v244 m c), (v252 m c), (v253 m c), (v261 m c), (v262 m c), (v270 m c), (v271 m c), (v279 m c), (v280 m c)⟩⌝) -∗ Kt r))
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (v123 m c) (v129 m c) (v184 m c) (v185 m c) (v186 m c) (v187 m c) (v188 m c) (v189 m c) (v200 m c) (v202 m c) (v217 m c) (v231 m c)) Kt := by
  rw [k0_part8_eq_skeleton]; unfold k0_part8_skel
  simp only [Prog.lift, Prog.bind_op, Prog.bind_ret, Prog.pure_eq_ret]
  iintro HK
  rw [wp_ret]; imodintro
  iapply HK
  ipureintro; rfl

/-- Part 9 of the body. -/
theorem part9 (Kt : (Σ' (v288 : FVec F S256x1 .f32) (v296 : FVec F S256x64 .f32) (v299 : FVec F S256x64 .f32) (v302 : FVec F S256x64 .f32) (v305 : FVec F S256x64 .f32) (v308 : FVec F S256x64 .f32) (v311 : FVec F S256x64 .f32) (v314 : FVec F S256x64 .f32) (v317 : FVec F S256x64 .f32), BitVec 32) → sProp 𝕄) :
    iprop(((c : Thread nD τ).loc cc0_stg3_0 ↦{fullShare} X3 m c) ∗ (∀ r : Σ' (v288 : FVec F S256x1 .f32) (v296 : FVec F S256x64 .f32) (v299 : FVec F S256x64 .f32) (v302 : FVec F S256x64 .f32) (v305 : FVec F S256x64 .f32) (v308 : FVec F S256x64 .f32) (v311 : FVec F S256x64 .f32) (v314 : FVec F S256x64 .f32) (v317 : FVec F S256x64 .f32), BitVec 32, (⌜r = ⟨(v288 m c), (v296 m c), (v299 m c), (v302 m c), (v305 m c), (v308 m c), (v311 m c), (v314 m c), (v317 m c), (v320 m c)⟩⌝ ∗ ((c : Thread nD τ).loc cc0_stg3_0 ↦{fullShare} X3 m c)) -∗ Kt r))
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (v2 c) (v129 m c) (v190 m c) (v191 m c) (v192 m c) (v193 m c) (v194 m c) (v195 m c) (v196 m c) (v197 m c) (v198 m c) (v202 m c) (v217 m c) (v226 m c) (v235 m c) (v244 m c) (v253 m c) (v262 m c) (v271 m c) (v280 m c)) Kt := by
  rw [k0_part9_eq_skeleton]; unfold k0_part9_skel
  simp only [Prog.lift, Prog.bind_op, Prog.bind_ret, Prog.pure_eq_ret]
  iintro ⟨H3, HK⟩
  iapply (wp_load_rect 𝒱₀ (c : Thread nD τ) none Set.univ (m := Memref.whole cc0_stg3_0) (r := Rect.unit (s := S2x256x256) ![0, 0, 0] S1x256x256.size inb_S2x256x256_S1x256x256_0_0_0) (Finset.subset_univ _)) $$ H3; iintro H3
  iapply (wp_load_rect 𝒱₀ (c : Thread nD τ) none Set.univ (m := Memref.whole cc0_stg3_0) (r := Rect.unit (s := S2x256x256) ![1, 0, 0] S1x256x256.size inb_S2x256x256_S1x256x256_1_0_0) (Finset.subset_univ _)) $$ H3; iintro H3
  rw [wp_ret]; imodintro
  iapply HK
  isplitr; · (ipureintro; rfl)
  iexact H3

/-- Part 10 of the body. -/
theorem part10 (Kt : (Σ' (v332 : FVec F S256x256 .bf16) (v336 : FVec F S256x256 .bf16) (v351 : FVec F S256x256 .f32) (v356 : FVec F S256x256 .f32), FVec F S256x1 .f32) → sProp 𝕄) :
    iprop(recs m K ∗ oweE c 0 ∗ (cred (tallyAt (krCell c 0) () NK) ∗ atPos ER (krCell c 0) 0 ∅ 0) ∗ (∀ r : Σ' (v332 : FVec F S256x256 .bf16) (v336 : FVec F S256x256 .bf16) (v351 : FVec F S256x256 .f32) (v356 : FVec F S256x256 .f32), FVec F S256x1 .f32, (⌜r = ⟨(v332 m c), (v336 m c), (v351 m c), (v356 m c), (v358 m c)⟩⌝ ∗ oweE c 0 ∗ kPts c (bwd 0 c) fullShare (Kown m (bwd 0 c)) ∗ semVal (krCell c 0) 0) -∗ Kt r))
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c) (v123 m c) (v157 m c) (v182 m c) (v320 m c)) Kt := by
  rw [k0_part10_eq_skeleton]; unfold k0_part10_skel
  simp only [Prog.lift, Prog.bind_op, Prog.bind_ret, Prog.pure_eq_ret]
  iintro ⟨#HR, HO, ⟨Hc0, Ha0⟩, HK⟩
  iapply (step_waitK m K c ⟨3, by decide⟩ _ (payload_kr m c 0 0) (expect_kr m c 0) _ rfl) $$ [HO Hc0 Ha0]
  · isplitr; · iexact HR
    isplitl [HO]; · iexact HO
    isplitl [Hc0]; · iexact Hc0
    iexact Ha0
  iintro ⟨HO, Hp0, Hz0⟩
  unfold kPts
  iapply (wp_load_rect 𝒱₀ (c : Thread nD τ) none Set.univ (m := Memref.whole cc0_scratch0) (r := Rect.unit (s := S4x2x256x256) (k0_off5 c 1#32) S1x1x256x256.size (k0_off5_inb c 0)) (by rw [show ((Memref.whole cc0_scratch0).access (Rect.unit (s := S4x2x256x256) (k0_off5 c 1#32) S1x1x256x256.size (k0_off5_inb c 0))).set = (Rect.unit (s := S4x2x256x256) (k0_off5 c 1#32) S1x1x256x256.size (k0_off5_inb c 0)).set from View.set_slice_whole _ _]; exact row_sub (bwd 0 c) rfl _ (off5_eq c 0) _)) $$ Hp0; iintro Hp0
  iapply (wp_load_rect 𝒱₀ (c : Thread nD τ) none Set.univ (m := Memref.whole cc0_scratch0) (r := Rect.unit (s := S4x2x256x256) (k0_off6 c 1#32) S1x1x256x256.size (k0_off6_inb c 0)) (by rw [show ((Memref.whole cc0_scratch0).access (Rect.unit (s := S4x2x256x256) (k0_off6 c 1#32) S1x1x256x256.size (k0_off6_inb c 0))).set = (Rect.unit (s := S4x2x256x256) (k0_off6 c 1#32) S1x1x256x256.size (k0_off6_inb c 0)).set from View.set_slice_whole _ _]; exact row_sub (bwd 0 c) rfl _ (off6_eq c 0) _)) $$ Hp0; iintro Hp0
  rw [wp_ret]; imodintro
  iapply HK
  isplitr; · (ipureintro; rfl)
  isplitl [HO]; · iexact HO
  isplitl [Hp0]; · iexact Hp0
  iexact Hz0

/-- Part 11 of the body. -/
theorem part11 (Kt : (Σ' (v359 : FVec F S256x1 .f32) (v360 : FVec F S256x256 .bf16) (v368 : FVec F S256x1 .f32) (v369 : FVec F S256x256 .bf16) (v377 : FVec F S256x1 .f32) (v378 : FVec F S256x256 .bf16) (v386 : FVec F S256x1 .f32) (v387 : FVec F S256x256 .bf16) (v395 : FVec F S256x1 .f32) (v396 : FVec F S256x256 .bf16) (v404 : FVec F S256x1 .f32) (v405 : FVec F S256x256 .bf16) (v406 : FVec F S256x64 .bf16) (v407 : FVec F S256x64 .bf16), FVec F S256x256 .f32) → sProp 𝕄) :
    iprop((∀ r : Σ' (v359 : FVec F S256x1 .f32) (v360 : FVec F S256x256 .bf16) (v368 : FVec F S256x1 .f32) (v369 : FVec F S256x256 .bf16) (v377 : FVec F S256x1 .f32) (v378 : FVec F S256x256 .bf16) (v386 : FVec F S256x1 .f32) (v387 : FVec F S256x256 .bf16) (v395 : FVec F S256x1 .f32) (v396 : FVec F S256x256 .bf16) (v404 : FVec F S256x1 .f32) (v405 : FVec F S256x256 .bf16) (v406 : FVec F S256x64 .bf16) (v407 : FVec F S256x64 .bf16), FVec F S256x256 .f32, (⌜r = ⟨(v359 m c), (v360 m c), (v368 m c), (v369 m c), (v377 m c), (v378 m c), (v386 m c), (v387 m c), (v395 m c), (v396 m c), (v404 m c), (v405 m c), (v406 m c), (v407 m c), (cst_225 m c)⟩⌝) -∗ Kt r))
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (v123 m c) (v129 m c) (v225 m c) (v234 m c) (v243 m c) (v252 m c) (v261 m c) (v270 m c) (v332 m c) (v336 m c) (v351 m c) (v356 m c) (v358 m c)) Kt := by
  rw [k0_part11_eq_skeleton]; unfold k0_part11_skel
  simp only [Prog.lift, Prog.bind_op, Prog.bind_ret, Prog.pure_eq_ret]
  iintro HK
  rw [wp_ret]; imodintro
  iapply HK
  ipureintro; rfl

/-- Part 12 of the body. -/
theorem part12 (Kt : (Σ' (v413 : FVec F S256x1 .f32) (v414 : FVec F S256x256 .bf16) (v422 : FVec F S256x1 .f32) (v423 : FVec F S256x256 .bf16) (v438 : FVec F S256x256 .bf16) (v442 : FVec F S256x256 .bf16), BitVec 32) → sProp 𝕄) :
    iprop(recs m K ∗ oweE c 0 ∗ (cred (tallyAt (krCell c 2) () NK) ∗ atPos ER (krCell c 2) 0 ∅ 0) ∗ (∀ r : Σ' (v413 : FVec F S256x1 .f32) (v414 : FVec F S256x256 .bf16) (v422 : FVec F S256x1 .f32) (v423 : FVec F S256x256 .bf16) (v438 : FVec F S256x256 .bf16) (v442 : FVec F S256x256 .bf16), BitVec 32, (⌜r = ⟨(v413 m c), (v414 m c), (v422 m c), (v423 m c), (v438 m c), (v442 m c), (v443 m c)⟩⌝ ∗ oweE c 0 ∗ kPts c (bwd 2 c) fullShare (Kown m (bwd 2 c)) ∗ semVal (krCell c 2) 0) -∗ Kt r))
      ⊢ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c) (v129 m c) (v279 m c) (v288 m c) (v336 m c) (v351 m c) (v406 m c) (v407 m c) (cst_225 m c)) Kt := by
  rw [k0_part12_eq_skeleton]; unfold k0_part12_skel
  simp only [Prog.lift, Prog.bind_op, Prog.bind_ret, Prog.pure_eq_ret]
  iintro ⟨#HR, HO, ⟨Hc0, Ha0⟩, HK⟩
  iapply (step_waitK m K c ⟨5, by decide⟩ _ (payload_kr m c 2 0) (expect_kr m c 2) _ rfl) $$ [HO Hc0 Ha0]
  · isplitr; · iexact HR
    isplitl [HO]; · iexact HO
    isplitl [Hc0]; · iexact Hc0
    iexact Ha0
  iintro ⟨HO, Hp0, Hz0⟩
  unfold kPts
  iapply (wp_load_rect 𝒱₀ (c : Thread nD τ) none Set.univ (m := Memref.whole cc0_scratch0) (r := Rect.unit (s := S4x2x256x256) (k0_off5 c 3#32) S1x1x256x256.size (k0_off5_inb c 2)) (by rw [show ((Memref.whole cc0_scratch0).access (Rect.unit (s := S4x2x256x256) (k0_off5 c 3#32) S1x1x256x256.size (k0_off5_inb c 2))).set = (Rect.unit (s := S4x2x256x256) (k0_off5 c 3#32) S1x1x256x256.size (k0_off5_inb c 2)).set from View.set_slice_whole _ _]; exact row_sub (bwd 2 c) rfl _ (off5_eq c 2) _)) $$ Hp0; iintro Hp0
  iapply (wp_load_rect 𝒱₀ (c : Thread nD τ) none Set.univ (m := Memref.whole cc0_scratch0) (r := Rect.unit (s := S4x2x256x256) (k0_off6 c 3#32) S1x1x256x256.size (k0_off6_inb c 2)) (by rw [show ((Memref.whole cc0_scratch0).access (Rect.unit (s := S4x2x256x256) (k0_off6 c 3#32) S1x1x256x256.size (k0_off6_inb c 2))).set = (Rect.unit (s := S4x2x256x256) (k0_off6 c 3#32) S1x1x256x256.size (k0_off6_inb c 2)).set from View.set_slice_whole _ _]; exact row_sub (bwd 2 c) rfl _ (off6_eq c 2) _)) $$ Hp0; iintro Hp0
  rw [wp_ret]; imodintro
  iapply HK
  isplitr; · (ipureintro; rfl)
  isplitl [HO]; · iexact HO
  isplitl [Hp0]; · iexact Hp0
  iexact Hz0

/-- Part 13 of the body. -/
theorem part13 (Kt : (Σ' (v457 : FVec F S256x256 .f32) (v465 : FVec F S256x1 .f32) (v466 : FVec F S256x256 .bf16) (v474 : FVec F S256x1 .f32) (v475 : FVec F S256x256 .bf16) (v483 : FVec F S256x1 .f32) (v484 : FVec F S256x256 .bf16) (v489 : FVec F S256x256 .f32), FVec F S256x1 .f32) → sProp 𝕄) :
    iprop((∀ r : Σ' (v457 : FVec F S256x256 .f32) (v465 : FVec F S256x1 .f32) (v466 : FVec F S256x256 .bf16) (v474 : FVec F S256x1 .f32) (v475 : FVec F S256x256 .bf16) (v483 : FVec F S256x1 .f32) (v484 : FVec F S256x256 .bf16) (v489 : FVec F S256x256 .f32), FVec F S256x1 .f32, (⌜r = ⟨(v457 m c), (v465 m c), (v466 m c), (v474 m c), (v475 m c), (v483 m c), (v484 m c), (v489 m c), (v492 m c)⟩⌝) -∗ Kt r))
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (v123 m c) (v157 m c) (v182 m c) (v359 m c) (v368 m c) (v377 m c) (v386 m c) (v438 m c) (v443 m c)) Kt := by
  rw [k0_part13_eq_skeleton]; unfold k0_part13_skel
  simp only [Prog.lift, Prog.bind_op, Prog.bind_ret, Prog.pure_eq_ret]
  iintro HK
  rw [wp_ret]; imodintro
  iapply HK
  ipureintro; rfl

/-- Part 14 of the body. -/
theorem part14 (Kt : (Σ' (v493 : FVec F S256x256 .bf16) (v501 : FVec F S256x1 .f32) (v502 : FVec F S256x256 .bf16) (v510 : FVec F S256x1 .f32) (v511 : FVec F S256x256 .bf16) (v519 : FVec F S256x1 .f32) (v520 : FVec F S256x256 .bf16) (v528 : FVec F S256x1 .f32) (v529 : FVec F S256x256 .bf16), BitVec 32) → sProp 𝕄) :
    iprop((∀ r : Σ' (v493 : FVec F S256x256 .bf16) (v501 : FVec F S256x1 .f32) (v502 : FVec F S256x256 .bf16) (v510 : FVec F S256x1 .f32) (v511 : FVec F S256x256 .bf16) (v519 : FVec F S256x1 .f32) (v520 : FVec F S256x256 .bf16) (v528 : FVec F S256x1 .f32) (v529 : FVec F S256x256 .bf16), BitVec 32, (⌜r = ⟨(v493 m c), (v501 m c), (v502 m c), (v510 m c), (v511 m c), (v519 m c), (v520 m c), (v528 m c), (v529 m c), (v532 m c)⟩⌝) -∗ Kt r))
      ⊢ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (v2 c) (v129 m c) (v395 m c) (v404 m c) (v413 m c) (v422 m c) (v442 m c) (v457 m c) (v489 m c)) Kt := by
  rw [k0_part14_eq_skeleton]; unfold k0_part14_skel
  simp only [Prog.lift, Prog.bind_op, Prog.bind_ret, Prog.pure_eq_ret]
  iintro HK
  rw [wp_ret]; imodintro
  iapply HK
  ipureintro; rfl

end Body

end Cert.KProof

end
-- ==== Proof.Body4.lean ====
/-
# The body of one device, part by part: the last copy, the second row of the result, the whole
-/
module

public import proofs.«01_k».proof.Proof.Body3
public import proofs.«01_k».proof.Proof.Body2

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (m : Mem F) (K : GSem nD τ sig → ℕ) (c : Dev nD)

/-- The last copy of the values, and the loads of the weights and queries. -/
theorem part5 (Kt : (Σ' (v117 : FVec F S256x512 .bf16) (v123 : FVec F S256x256 .bf16) (v129 : FVec F S256x256 .bf16) (v130 : BitVec 32) (v133 : IVec S256x256 32) (v147 : IVec S256x256 1), IVec S256x256 32) → sProp 𝕄) :
    iprop(recs m K ∗ oweE c (OV2 c) ∗ (vPts c c (sh 2) (Vown m c) ∗ (∃ f, vPts (F := F) (fwd 2 c) c fullShare f) ∗ dutyTok ER (vsCell c 2) 0 0 ∗ reached ER (vsCell c 2) 0 ∗ dutyTok ER (vrCell (fwd 2 c) 2) 0 0 ∗ reached ER (vrCell (fwd 2 c) 2) 0)
        ∗ ((c : Thread nD τ).loc cc0_stg0_0 ↦{fullShare} X0 m c) ∗ ((c : Thread nD τ).loc cc0_stg1_0 ↦{fullShare} X1 m c) ∗ ((c : Thread nD τ).loc cc0_stg4_0 ↦{fullShare} X4 m c)
        ∗ (∀ r : Σ' (v117 : FVec F S256x512 .bf16) (v123 : FVec F S256x256 .bf16) (v129 : FVec F S256x256 .bf16) (v130 : BitVec 32) (v133 : IVec S256x256 32) (v147 : IVec S256x256 1), IVec S256x256 32, (⌜r = ⟨(v117 m c), (v123 m c), (v129 m c), (v130 m c), (v133 m c), (v147 m c), (v149 m c)⟩⌝ ∗ oweE c 0 ∗ cred (tallyAt (vsCell c 2) () NV) ∗ ((c : Thread nD τ).loc cc0_stg0_0 ↦{fullShare} X0 m c) ∗ ((c : Thread nD τ).loc cc0_stg1_0 ↦{fullShare} X1 m c) ∗ ((c : Thread nD τ).loc cc0_stg4_0 ↦{fullShare} X4 m c)) -∗ Kt r))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v2 c)) Kt := by
  rw [k0_part5_eq_skeleton]; unfold k0_part5_skel
  simp only [Prog.lift, Prog.bind_op, Prog.bind_ret, Prog.pure_eq_ret]
  iintro ⟨#HR, HO, ⟨Hs2, Hd2, Hts2, Hrs2, Htr2, Hrr2⟩, H0, H1, H4, HK⟩
  iapply (step_sendV m K c 2 _ (dev9_eq c) _ _ rfl rfl (OV2 c) 0 rfl) $$ [Hs2 Hd2 HO Hts2 Hrs2 Htr2 Hrr2]
  · isplitr; · iexact HR
    isplitl [Hs2]; · iexact Hs2
    isplitl [Hd2]; · iexact Hd2
    isplitl [HO]; · iexact HO
    isplitl [Hts2]; · iexact Hts2
    isplitl [Hrs2]; · iexact Hrs2
    isplitl [Htr2]; · iexact Htr2
    iexact Hrr2
  iintro ⟨Hc2, HO⟩
  iapply (wp_load_rect 𝒱₀ (c : Thread nD τ) none Set.univ (m := Memref.whole cc0_stg1_0) (r := Rect.unit (s := S512x256) ![0, 0] S512x256.size inb_S512x256_S512x256_0_0) (Finset.subset_univ _)) $$ H1; iintro H1
  iapply (wp_load_rect 𝒱₀ (c : Thread nD τ) none Set.univ (m := Memref.whole cc0_stg4_0) (r := Rect.unit (s := S256x512) ![0, 0] S256x512.size inb_S256x512_S256x512_0_0) (Finset.subset_univ _)) $$ H4; iintro H4
  iapply (wp_load_rect 𝒱₀ (c : Thread nD τ) none Set.univ (m := Memref.whole cc0_stg0_0) (r := Rect.unit (s := S2x256x512) ![0, 0, 0] S1x256x512.size inb_S2x256x512_S1x256x512_0_0_0) (Finset.subset_univ _)) $$ H0; iintro H0
  iapply (wp_load_rect 𝒱₀ (c : Thread nD τ) none Set.univ (m := Memref.whole cc0_stg0_0) (r := Rect.unit (s := S2x256x512) ![1, 0, 0] S1x256x512.size inb_S2x256x512_S1x256x512_1_0_0) (Finset.subset_univ _)) $$ H0; iintro H0
  rw [wp_ret]; imodintro
  iapply HK
  isplitr; · (ipureintro; rfl)
  isplitl [HO]; · iexact HO
  isplitl [Hc2]; · iexact Hc2
  isplitl [H0]; · iexact H0
  isplitl [H1]; · iexact H1
  iexact H4

/-- The second row of the result is stored, and two of the device's own copies of the keys are waited for. -/
theorem part21 (Kt : PUnit → sProp 𝕄) :
    iprop(recs m K ∗ oweE c 0 ∗ (cred (tallyAt (ksCell c 0) () NK) ∗ atPos ER (ksCell c 0) 0 ∅ 0) ∗ (cred (tallyAt (ksCell c 1) () NK) ∗ atPos ER (ksCell c 1) 0 ∅ 0)
        ∗ (∃ f, (c : Thread nD τ).loc cc0_stg5_0 ↦{fullShare} (((Memref.whole cc0_stg5_0).access outR0).write (Elt F) f (out0 m c) Finset.univ))
        ∗ ((oweE c 0 ∗ (kPts c c (sh 0) (Kown m c) ∗ semVal (ksCell c 0) 0) ∗ (kPts c c (sh 1) (Kown m c) ∗ semVal (ksCell c 1) 0)
            ∗ ((c : Thread nD τ).loc cc0_stg5_0 ↦{fullShare} outAt m c)) -∗ Kt ⟨⟩))
      ⊢ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (v117 m c) (v625 m c) (v634 m c) (v752 m c) (v755 m c) (v758 m c) (v774 m c) (v775 m c)) Kt := by
  rw [k0_part21_eq_skeleton]; unfold k0_part21_skel
  simp only [Prog.lift, Prog.bind_op, Prog.bind_ret, Prog.pure_eq_ret]
  iintro ⟨#HR, HO, ⟨Hc0, Ha0⟩, ⟨Hc1, Ha1⟩, ⟨%f5, H5⟩, HK⟩
  iapply (wp_load_rect 𝒱₀ (c : Thread nD τ) none Set.univ (m := Memref.whole cc0_stg5_0) (r := Rect.unit (s := S2x256x512) ![1, 0, 0] S1x256x512.size inb_S2x256x512_S1x256x512_1_0_0) (Finset.subset_univ _)) $$ H5; iintro H5
  iapply (wp_store 𝒱₀ (c : Thread nD τ) none Set.univ (m := Memref.whole cc0_stg5_0) (r := Rect.unit (s := S2x256x512) ![1, 0, 0] S1x256x512.size inb_S2x256x512_S1x256x512_1_0_0) (Finset.subset_univ _)) $$ H5; iintro H5
  iapply (step_waitK m K c ⟨0, by decide⟩ _ (payload_ks m c 0 0) (expect_ks m c 0) _ rfl) $$ [HO Hc0 Ha0]
  · isplitr; · iexact HR
    isplitl [HO]; · iexact HO
    isplitl [Hc0]; · iexact Hc0
    iexact Ha0
  iintro ⟨HO, Hp0, Hz0⟩
  iapply (step_waitK m K c ⟨1, by decide⟩ _ (payload_ks m c 1 0) (expect_ks m c 1) _ rfl) $$ [HO Hc1 Ha1]
  · isplitr; · iexact HR
    isplitl [HO]; · iexact HO
    isplitl [Hc1]; · iexact Hc1
    iexact Ha1
  iintro ⟨HO, Hp1, Hz1⟩
  rw [wp_ret]; imodintro
  iapply HK
  isplitl [HO]; · iexact HO
  isplitl [Hp0 Hz0]
  · isplitl [Hp0]; · iexact Hp0
    iexact Hz0
  isplitl [Hp1 Hz1]
  · isplitl [Hp1]; · iexact Hp1
    iexact Hz1
  rw [← out_store2 m c f5]
  iexact H5

/-- What one copy of each kind needs at the start: its tokens, what is reached, its positions and the arrivals to be waited for. -/
def laneRes (c : Dev nD) (j : Fin 3) : sProp 𝕄 :=
  iprop((reached ER (ksCell c j) 0 ∗ reached ER (krCell c j) 0 ∗ reached ER (vsCell c j) 0 ∗ reached ER (vrCell c j) 0)
    ∗ (atPos ER (ksCell c j) 0 ∅ 0 ∗ atPos ER (krCell c j) 0 ∅ 0 ∗ atPos ER (vsCell c j) 0 ∅ 0 ∗ atPos ER (vrCell c j) 0 ∅ 0)
    ∗ (dutyTok ER (ksCell c j) 0 0 ∗ dutyTok ER (krCell (fwd j c) j) 0 0 ∗ dutyTok ER (vsCell c j) 0 0 ∗ dutyTok ER (vrCell (fwd j c) j) 0 0)
    ∗ cred (tallyAt (krCell c j) () NK) ∗ cred (tallyAt (vrCell c j) () NV))

/-- What of the entry a device needs at the start. -/
def entryRes (c : Dev nD) : sProp 𝕄 :=
  iprop((dutyTok ER (barCell (fwd 0 c)) 0 0 ∗ dutyTok ER (barCell (fwd 1 c)) 0 1 ∗ dutyTok ER (barCell (fwd 2 c)) 0 2)
    ∗ cred (tallyAt (barCell c) () 3) ∗ atPos ER (barCell c) 0 ∅ 0)

/-- The four counters of one lane are zero again. -/
def laneEnd (c : Dev nD) (j : Fin 3) : sProp 𝕄 :=
  iprop(semVal (ksCell c j) 0 ∗ semVal (krCell c j) 0 ∗ semVal (vsCell c j) 0 ∗ semVal (vrCell c j) 0)

/-- The staged blocks of the five arguments. -/
def inBlocks (m : Mem F) (c : Dev nD) : sProp 𝕄 := iprop(((c : Thread nD τ).loc cc0_stg0_0 ↦{fullShare} X0 m c) ∗ ((c : Thread nD τ).loc cc0_stg1_0 ↦{fullShare} X1 m c) ∗ ((c : Thread nD τ).loc cc0_stg2_0 ↦{fullShare} X2 m c) ∗ ((c : Thread nD τ).loc cc0_stg3_0 ↦{fullShare} X3 m c) ∗ ((c : Thread nD τ).loc cc0_stg4_0 ↦{fullShare} X4 m c))

/-- All but the last wait of the body. -/
theorem part22 (Kt : Dev nD → sProp 𝕄) :
    iprop((recs m K ∗ levAts L lv) ∗ oweE c (O₀ c) ∗ entryRes c ∗ laneRes c 0 ∗ laneRes c 1 ∗ laneRes c 2
        ∗ inBlocks m c ∗ (∃ f, (c : Thread nD τ).loc cc0_stg5_0 ↦{fullShare} f)
        ∗ (∃ f, (c : Thread nD τ).loc cc0_scratch0 ↦{fullShare} f) ∗ (∃ f, (c : Thread nD τ).loc cc0_scratch1 ↦{fullShare} f)
        ∗ ((oweE c 0 ∗ atPos ER (barCell c) (0 + 1) ∅ 0 ∗ inBlocks m c ∗ ((c : Thread nD τ).loc cc0_stg5_0 ↦{fullShare} outAt m c)
            ∗ (laneEnd c 0 ∗ laneEnd c 1 ∗ (semVal (ksCell c 2) 0 ∗ semVal (krCell c 2) 0 ∗ semVal (vrCell c 2) 0))
            ∗ (∃ f, (c : Thread nD τ).loc cc0_scratch0 ↦{fullShare} f)
            ∗ (vPts c c (sh 0) (Vown m c) ∗ vPts c c (sh 1) (Vown m c) ∗ vPts c (bwd 0 c) fullShare (Vown m (bwd 0 c)) ∗ vPts c (bwd 1 c) fullShare (Vown m (bwd 1 c)) ∗ vPts c (bwd 2 c) fullShare (Vown m (bwd 2 c)))
            ∗ (cred (tallyAt (vsCell c 2) () NV) ∗ atPos ER (vsCell c 2) 0 ∅ 0)) -∗ Kt c))
      ⊢ wp frame (wpE (defs₀ (F := F)) 𝒱₀ (c : Thread nD τ) none) Set.univ
          (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) Kt := by
  rw [k0_part22_eq_skeleton]; unfold k0_part22_skel
  unfold entryRes laneRes inBlocks
  iintro ⟨⟨#HR, #Hlev⟩, HO, ⟨⟨Hb0, Hb1, Hb2⟩, HcB, HaB⟩, ⟨⟨#Hrks0, #Hrkr0, #Hrvs0, #Hrvr0⟩, ⟨Haks0, Hakr0, Havs0, Havr0⟩, ⟨Htks0, Htkr0, Htvs0, Htvr0⟩, Hckr0, Hcvr0⟩, ⟨⟨#Hrks1, #Hrkr1, #Hrvs1, #Hrvr1⟩, ⟨Haks1, Hakr1, Havs1, Havr1⟩, ⟨Htks1, Htkr1, Htvs1, Htvr1⟩, Hckr1, Hcvr1⟩, ⟨⟨#Hrks2, #Hrkr2, #Hrvs2, #Hrvr2⟩, ⟨Haks2, Hakr2, Havs2, Havr2⟩, ⟨Htks2, Htkr2, Htvs2, Htvr2⟩, Hckr2, Hcvr2⟩, ⟨H0, H1, H2, H3, H4⟩, H5, ⟨%fk, Hk⟩, ⟨%fv, Hv⟩, HK⟩
  ihave Hk := (Entails.of_eq (k_slots c fk)) $$ Hk
  ihave Hv := (Entails.of_eq (v_slots c fv)) $$ Hv
  icases Hk with ⟨Hk, Hks0, Hks1, Hks2⟩
  icases Hv with ⟨Hv, Hvs0, Hvs1, Hvs2⟩
  ihave Hk := (show kPts c c fullShare fk ⊢ (iprop(∃ f, kPts (F := F) c c fullShare f) : sProp 𝕄) from by iintro H; iexists fk; iexact H) $$ Hk
  ihave Hv := (show vPts c c fullShare fv ⊢ (iprop(∃ f, vPts (F := F) c c fullShare f) : sProp 𝕄) from by iintro H; iexists fv; iexact H) $$ Hv
  ihave Hks0 := (show kPts c (fwd 0 c) fullShare fk ⊢ (iprop(∃ f, kPts (F := F) c (fwd 0 c) fullShare f) : sProp 𝕄) from by iintro H; iexists fk; iexact H) $$ Hks0
  ihave Hks1 := (show kPts c (fwd 1 c) fullShare fk ⊢ (iprop(∃ f, kPts (F := F) c (fwd 1 c) fullShare f) : sProp 𝕄) from by iintro H; iexists fk; iexact H) $$ Hks1
  ihave Hks2 := (show kPts c (fwd 2 c) fullShare fk ⊢ (iprop(∃ f, kPts (F := F) c (fwd 2 c) fullShare f) : sProp 𝕄) from by iintro H; iexists fk; iexact H) $$ Hks2
  ihave Hvs0 := (show vPts c (fwd 0 c) fullShare fv ⊢ (iprop(∃ f, vPts (F := F) c (fwd 0 c) fullShare f) : sProp 𝕄) from by iintro H; iexists fv; iexact H) $$ Hvs0
  ihave Hvs1 := (show vPts c (fwd 1 c) fullShare fv ⊢ (iprop(∃ f, vPts (F := F) c (fwd 1 c) fullShare f) : sProp 𝕄) from by iintro H; iexists fv; iexact H) $$ Hvs1
  ihave Hvs2 := (show vPts c (fwd 2 c) fullShare fv ⊢ (iprop(∃ f, vPts (F := F) c (fwd 2 c) fullShare f) : sProp 𝕄) from by iintro H; iexists fv; iexact H) $$ Hvs2
  simp only [wp_bind]
  iapply (part1 m c)
  isplitl [H2]; · iexact H2
  isplitl [H3]; · iexact H3
  isplitl [Hk]; · iexact Hk
  isplitl [Hv]; · iexact Hv
  iintro %r ⟨%hr, H2, H3, Hk, Hv⟩
  subst hr
  ihave Hk := (k_share c (Kown m c)).1 $$ Hk
  icases Hk with ⟨Hkh0, Hkh1, Hkh2⟩
  ihave Hv := (v_share c (Vown m c)).1 $$ Hv
  icases Hv with ⟨Hvh0, Hvh1, Hvh2⟩
  try simp only [wp_bind]
  iapply (part2 m K c)
  isplitr
  · isplitr; · iexact HR
    iexact Hlev
  isplitl [HO]; · iexact HO
  isplitl [Hb0 Hb1 Hb2 Hks0 Hvs0 Hks1 Hvs1 Hks2 Hvs2]
  · isplitl [Hb0 Hb1 Hb2]
    · isplitl [Hb0]; · iexact Hb0
      isplitl [Hb1]; · iexact Hb1
      iexact Hb2
    isplitl [Hks0 Hvs0 Hks1 Hvs1 Hks2 Hvs2]
    · isplitl [Hks0]; · iexact Hks0
      isplitl [Hvs0]; · iexact Hvs0
      isplitl [Hks1]; · iexact Hks1
      isplitl [Hvs1]; · iexact Hvs1
      isplitl [Hks2]; · iexact Hks2
      iexact Hvs2
    isplitr
    · isplitr; · iexact Hrkr0
      isplitr; · iexact Hrkr1
      iexact Hrkr2
    isplitr; · iexact Hrvr0
    isplitr; · iexact Hrvr1
    iexact Hrvr2
  isplitl [HcB HaB]
  · isplitl [HcB]; · iexact HcB
    iexact HaB
  isplitl [Hkh0 Htks0 Htkr0]
  · isplitl [Hkh0]; · iexact Hkh0
    isplitl [Htks0]; · iexact Htks0
    isplitr; · iexact Hrks0
    iexact Htkr0
  iintro ⟨HO, HaB, Hcks0, ⟨Hdv0, #Hxv0⟩, Hp1, Hp2⟩
  unfold peerSlot
  icases Hp1 with ⟨Hdk1, Hdv1, #Hxk1, #Hxv1⟩
  icases Hp2 with ⟨Hdk2, Hdv2, #Hxk2, #Hxv2⟩
  try simp only [wp_bind]
  iapply (part3 m K c)
  isplitr; · iexact HR
  isplitl [HO]; · iexact HO
  isplitl [Hkh1 Hdk1 Htks1 Htkr1]
  · isplitl [Hkh1]; · iexact Hkh1
    isplitl [Hdk1]; · iexact Hdk1
    isplitl [Htks1]; · iexact Htks1
    isplitr; · iexact Hrks1
    isplitl [Htkr1]; · iexact Htkr1
    iexact Hxk1
  isplitl [Hkh2 Hdk2 Htks2 Htkr2]
  · isplitl [Hkh2]; · iexact Hkh2
    isplitl [Hdk2]; · iexact Hdk2
    isplitl [Htks2]; · iexact Htks2
    isplitr; · iexact Hrks2
    isplitl [Htkr2]; · iexact Htkr2
    iexact Hxk2
  iintro ⟨HO, Hcks1, Hcks2⟩
  try simp only [wp_bind]
  iapply (part4 m K c)
  isplitr; · iexact HR
  isplitl [HO]; · iexact HO
  isplitl [Hvh0 Hdv0 Htvs0 Htvr0]
  · isplitl [Hvh0]; · iexact Hvh0
    isplitl [Hdv0]; · iexact Hdv0
    isplitl [Htvs0]; · iexact Htvs0
    isplitr; · iexact Hrvs0
    isplitl [Htvr0]; · iexact Htvr0
    iexact Hxv0
  isplitl [Hvh1 Hdv1 Htvs1 Htvr1]
  · isplitl [Hvh1]; · iexact Hvh1
    isplitl [Hdv1]; · iexact Hdv1
    isplitl [Htvs1]; · iexact Htvs1
    isplitr; · iexact Hrvs1
    isplitl [Htvr1]; · iexact Htvr1
    iexact Hxv1
  iintro ⟨HO, Hcvs0, Hcvs1⟩
  try simp only [wp_bind]
  iapply (part5 m K c)
  isplitr; · iexact HR
  isplitl [HO]; · iexact HO
  isplitl [Hvh2 Hdv2 Htvs2 Htvr2]
  · isplitl [Hvh2]; · iexact Hvh2
    isplitl [Hdv2]; · iexact Hdv2
    isplitl [Htvs2]; · iexact Htvs2
    isplitr; · iexact Hrvs2
    isplitl [Htvr2]; · iexact Htvr2
    iexact Hxv2
  isplitl [H0]; · iexact H0
  isplitl [H1]; · iexact H1
  isplitl [H4]; · iexact H4
  iintro %r ⟨%hr, HO, Hcvs2, H0, H1, H4⟩
  subst hr
  try simp only [wp_bind]
  iapply (part6 m c)
  iintro %r %hr
  subst hr
  try simp only [wp_bind]
  iapply (part7 m c)
  isplitl [H2]; · iexact H2
  iintro %r ⟨%hr, H2⟩
  subst hr
  try simp only [wp_bind]
  iapply (part8 m c)
  iintro %r %hr
  subst hr
  try simp only [wp_bind]
  iapply (part9 m c)
  isplitl [H3]; · iexact H3
  iintro %r ⟨%hr, H3⟩
  subst hr
  try simp only [wp_bind]
  iapply (part10 m K c)
  isplitr; · iexact HR
  isplitl [HO]; · iexact HO
  isplitl [Hckr0 Hakr0]
  · isplitl [Hckr0]; · iexact Hckr0
    iexact Hakr0
  iintro %r ⟨%hr, HO, Hpkr0, Hzkr0⟩
  subst hr
  try simp only [wp_bind]
  iapply (part11 m c)
  iintro %r %hr
  subst hr
  try simp only [wp_bind]
  iapply (part12 m K c)
  isplitr; · iexact HR
  isplitl [HO]; · iexact HO
  isplitl [Hckr2 Hakr2]
  · isplitl [Hckr2]; · iexact Hckr2
    iexact Hakr2
  iintro %r ⟨%hr, HO, Hpkr2, Hzkr2⟩
  subst hr
  try simp only [wp_bind]
  iapply (part13 m c)
  iintro %r %hr
  subst hr
  try simp only [wp_bind]
  iapply (part14 m c)
  iintro %r %hr
  subst hr
  try simp only [wp_bind]
  iapply (part15 m K c)
  isplitr; · iexact HR
  isplitl [HO]; · iexact HO
  isplitl [Hckr1 Hakr1]
  · isplitl [Hckr1]; · iexact Hckr1
    iexact Hakr1
  iintro %r ⟨%hr, HO, Hpkr1, Hzkr1⟩
  subst hr
  try simp only [wp_bind]
  iapply (part16 m c)
  iintro %r %hr
  subst hr
  try simp only [wp_bind]
  iapply (part17 m K c)
  isplitr; · iexact HR
  isplitl [HO]; · iexact HO
  isplitl [Hcvr0 Havr0]
  · isplitl [Hcvr0]; · iexact Hcvr0
    iexact Havr0
  iintro %r ⟨%hr, HO, Hpvr0, Hzvr0⟩
  subst hr
  try simp only [wp_bind]
  iapply (part18 m K c)
  isplitr; · iexact HR
  isplitl [HO]; · iexact HO
  isplitl [Hcvr2 Havr2]
  · isplitl [Hcvr2]; · iexact Hcvr2
    iexact Havr2
  iintro %r ⟨%hr, HO, Hpvr2, Hzvr2⟩
  subst hr
  try simp only [wp_bind]
  iapply (part19 m K c)
  isplitr; · iexact HR
  isplitl [HO]; · iexact HO
  isplitl [Hcvr1 Havr1]
  · isplitl [Hcvr1]; · iexact Hcvr1
    iexact Havr1
  iintro %r ⟨%hr, HO, Hpvr1, Hzvr1⟩
  subst hr
  try simp only [wp_bind]
  iapply (part20 m c)
  isplitl [Hpvr1]; · iexact Hpvr1
  isplitl [H5]; · iexact H5
  iintro %r ⟨%hr, Hpvr1, H5⟩
  subst hr
  try simp only [wp_bind]
  iapply (part21 m K c)
  isplitr; · iexact HR
  isplitl [HO]; · iexact HO
  isplitl [Hcks0 Haks0]
  · isplitl [Hcks0]; · iexact Hcks0
    iexact Haks0
  isplitl [Hcks1 Haks1]
  · isplitl [Hcks1]; · iexact Hcks1
    iexact Haks1
  isplitl [H5]; · iexact H5
  iintro ⟨HO, ⟨Hpks0, Hzks0⟩, ⟨Hpks1, Hzks1⟩, H5⟩
  simp only [Prog.lift, Prog.bind_op, Prog.bind_ret, Prog.pure_eq_ret]
  iapply (step_waitK m K c ⟨2, by decide⟩ _ (payload_ks m c 2 0) (expect_ks m c 2) _ rfl) $$ [HO Hcks2 Haks2]
  · isplitr; · iexact HR
    isplitl [HO]; · iexact HO
    isplitl [Hcks2]; · iexact Hcks2
    iexact Haks2
  iintro ⟨HO, Hpks2, Hzks2⟩
  rw [wp_ret]; imodintro
  iapply (step_waitV m K c ⟨6, by decide⟩ _ (payload_vs m c 0 0) (expect_vs m c 0) _ rfl) $$ [HO Hcvs0 Havs0]
  · isplitr; · iexact HR
    isplitl [HO]; · iexact HO
    isplitl [Hcvs0]; · iexact Hcvs0
    iexact Havs0
  iintro ⟨HO, Hpvs0, Hzvs0⟩
  rw [wp_ret]; imodintro
  iapply (step_waitV m K c ⟨7, by decide⟩ _ (payload_vs m c 1 0) (expect_vs m c 1) _ rfl) $$ [HO Hcvs1 Havs1]
  · isplitr; · iexact HR
    isplitl [HO]; · iexact HO
    isplitl [Hcvs1]; · iexact Hcvs1
    iexact Havs1
  iintro ⟨HO, Hpvs1, Hzvs1⟩
  rw [wp_ret]; imodintro
  rw [wp_ret]; imodintro
  try (rw [wp_ret]; imodintro)
  iapply HK
  ihave HkF := (k_share c (Kown m c)).2 $$ [Hpks0 Hpks1 Hpks2]
  · isplitl [Hpks0]; · iexact Hpks0
    isplitl [Hpks1]; · iexact Hpks1
    iexact Hpks2
  ihave HkW := (k_join c (Kown m)) $$ [HkF Hpkr0 Hpkr1 Hpkr2]
  · isplitl [HkF]; · iexact HkF
    isplitl [Hpkr0]; · iexact Hpkr0
    isplitl [Hpkr1]; · iexact Hpkr1
    iexact Hpkr2
  unfold laneEnd
  isplitl [HO]; · iexact HO
  isplitl [HaB]; · iexact HaB
  isplitl [H0 H1 H2 H3 H4]
  · isplitl [H0]; · iexact H0
    isplitl [H1]; · iexact H1
    isplitl [H2]; · iexact H2
    isplitl [H3]; · iexact H3
    iexact H4
  isplitl [H5]; · iexact H5
  isplitl [Hzks0 Hzkr0 Hzvs0 Hzvr0 Hzks1 Hzkr1 Hzvs1 Hzvr1 Hzks2 Hzkr2 Hzvr2]
  · isplitl [Hzks0 Hzkr0 Hzvs0 Hzvr0]
    · isplitl [Hzks0]; · iexact Hzks0
      isplitl [Hzkr0]; · iexact Hzkr0
      isplitl [Hzvs0]; · iexact Hzvs0
      iexact Hzvr0
    isplitl [Hzks1 Hzkr1 Hzvs1 Hzvr1]
    · isplitl [Hzks1]; · iexact Hzks1
      isplitl [Hzkr1]; · iexact Hzkr1
      isplitl [Hzvs1]; · iexact Hzvs1
      iexact Hzvr1
    isplitl [Hzks2]; · iexact Hzks2
    isplitl [Hzkr2]; · iexact Hzkr2
    iexact Hzvr2
  isplitl [HkW]; · iexact HkW
  isplitl [Hpvs0 Hpvs1 Hpvr0 Hpvr1 Hpvr2]
  · isplitl [Hpvs0]; · iexact Hpvs0
    isplitl [Hpvs1]; · iexact Hpvs1
    isplitl [Hpvr0]; · iexact Hpvr0
    isplitl [Hpvr1]; · iexact Hpvr1
    iexact Hpvr2
  isplitl [Hcvs2]; · iexact Hcvs2
  iexact Havs2

/-- The body of one device: from its arguments staged and the schedule's resources to its block of the result. -/
theorem body (Kt : PUnit → sProp 𝕄) :
    iprop((recs m K ∗ levAts L lv) ∗ oweE c (O₀ c) ∗ entryRes c ∗ laneRes c 0 ∗ laneRes c 1 ∗ laneRes c 2
        ∗ inBlocks m c ∗ (∃ f, (c : Thread nD τ).loc cc0_stg5_0 ↦{fullShare} f)
        ∗ (∃ f, (c : Thread nD τ).loc cc0_scratch0 ↦{fullShare} f) ∗ (∃ f, (c : Thread nD τ).loc cc0_scratch1 ↦{fullShare} f)
        ∗ ((oweE c 0 ∗ semVal (barCell c) 0 ∗ inBlocks m c ∗ ((c : Thread nD τ).loc cc0_stg5_0 ↦{fullShare} outAt m c)
            ∗ (laneEnd c 0 ∗ laneEnd c 1 ∗ laneEnd c 2)
            ∗ (∃ f, (c : Thread nD τ).loc cc0_scratch0 ↦{fullShare} f) ∗ (∃ f, (c : Thread nD τ).loc cc0_scratch1 ↦{fullShare} f)) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) Kt := by
  rw [cc0_body_eq_skeleton]; unfold cc0_body_skel
  simp only [wp_bind]
  iintro ⟨⟨#HR, #Hlev⟩, HO, HE, HL0, HL1, HL2, HB, H5, Hk, Hv, HK⟩
  iapply (part22 m K c)
  isplitr
  · isplitr; · iexact HR
    iexact Hlev
  isplitl [HO]; · iexact HO
  isplitl [HE]; · iexact HE
  isplitl [HL0]; · iexact HL0
  isplitl [HL1]; · iexact HL1
  isplitl [HL2]; · iexact HL2
  isplitl [HB]; · iexact HB
  isplitl [H5]; · iexact H5
  isplitl [Hk]; · iexact Hk
  isplitl [Hv]; · iexact Hv
  unfold laneEnd
  iintro ⟨HO, HaB, HB, H5, ⟨HZ0, HZ1, ⟨Hzks2, Hzkr2, Hzvr2⟩⟩, HkW, ⟨Hpvs0, Hpvs1, Hpvr0, Hpvr1, Hpvr2⟩, ⟨Hcvs2, Havs2⟩⟩
  simp only [Prog.lift, Prog.bind_op, Prog.bind_ret, Prog.pure_eq_ret]
  iapply (step_waitV m K c ⟨8, by decide⟩ _ (payload_vs m c 2 0) (expect_vs m c 2) _ rfl) $$ [HO Hcvs2 Havs2]
  · isplitr; · iexact HR
    isplitl [HO]; · iexact HO
    isplitl [Hcvs2]; · iexact Hcvs2
    iexact Havs2
  iintro ⟨HO, Hpvs2, Hzvs2⟩
  imod (Rounds.cell_close ER (rd m) (Set.mem_univ (K (barCell c))) (fun h => h) (R := 0 + 1) (duties_later m (barCell c))) $$ [HaB] with HaB
  · isplitr; · iapply (inv_bar m K c); iexact HR
    iexact HaB
  rw [wp_ret]; imodintro
  try (rw [wp_ret]; imodintro)
  iapply HK
  ihave HvF := (v_share c (Vown m c)).2 $$ [Hpvs0 Hpvs1 Hpvs2]
  · isplitl [Hpvs0]; · iexact Hpvs0
    isplitl [Hpvs1]; · iexact Hpvs1
    iexact Hpvs2
  ihave HvW := (v_join c (Vown m)) $$ [HvF Hpvr0 Hpvr1 Hpvr2]
  · isplitl [HvF]; · iexact HvF
    isplitl [Hpvr0]; · iexact Hpvr0
    isplitl [Hpvr1]; · iexact Hpvr1
    iexact Hpvr2
  isplitl [HO]; · iexact HO
  isplitl [HaB]; · iexact HaB
  isplitl [HB]; · iexact HB
  isplitl [H5]; · iexact H5
  isplitl [HZ0 HZ1 Hzks2 Hzkr2 Hzvs2 Hzvr2]
  · isplitl [HZ0]; · iexact HZ0
    isplitl [HZ1]; · iexact HZ1
    isplitl [Hzks2]; · iexact Hzks2
    isplitl [Hzkr2]; · iexact Hzkr2
    isplitl [Hzvs2]; · iexact Hzvs2
    iexact Hzvr2
  isplitl [HkW]; · iexact HkW
  iexact HvW

end Body

end Cert.KProof

end
-- ==== Proof.Region.lean ====
/-
# One device's call: what goes in, the body, what comes out
-/
module

public import proofs.«01_k».proof.Proof.Body4
public import Idealize.ShloMosaic.Lib.Pipeline.Regions
public import Idealize.ShloMosaic.Lib.Pipeline.RegionTalk

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Region
variable (m : Mem F)

/-- The tokens of one lane: of the device's own copies, and of the receiving side of the device it copies to. -/
def laneToks (c : Dev nD) (j : Fin 3) : sProp 𝕄 :=
  iprop(dutyTok ER (ksCell c j) 0 0 ∗ dutyTok ER (krCell (fwd j c) j) 0 0 ∗ dutyTok ER (vsCell c j) 0 0 ∗ dutyTok ER (vrCell (fwd j c) j) 0 0)
/-- The arrivals of one lane. -/
def laneCred (c : Dev nD) (j : Fin 3) : sProp 𝕄 := iprop(cred (tallyAt (krCell c j) () NK) ∗ cred (tallyAt (vrCell c j) () NV))
/-- The rights to open the four cells of one lane. -/
def laneOpen (c : Dev nD) (j : Fin 3) : sProp 𝕄 :=
  iprop(openTok ER (ksCell c j) ∗ openTok ER (krCell c j) ∗ openTok ER (vsCell c j) ∗ openTok ER (vrCell c j))

/-- Twelve things, lane by lane. -/
theorem bigSep_lanes (Φ : Fin 12 → sProp 𝕄) : bigSep Finset.univ Φ
    = iprop(Φ 0 ∗ Φ 3 ∗ Φ 6 ∗ Φ 9 ∗ Φ 1 ∗ Φ 4 ∗ Φ 7 ∗ Φ 10 ∗ Φ 2 ∗ Φ 5 ∗ Φ 8 ∗ Φ 11) :=
  bigSep_univ_eq_bigSepL [0, 3, 6, 9, 1, 4, 7, 10, 2, 5, 8, 11] (by decide) (by decide) Φ

/-- A lane's cells opened, its counters being zero. -/
theorem lane_open (K : GSem nD τ sig → ℕ) (c : Dev nD) (j : Fin 3) :
    iprop(recs m K ∗ laneOpen c j ∗ laneEnd c j ∗ laneToks c j ∗ laneCred c j) ⊢ (|={Set.univ}=> laneRes c j : sProp 𝕄) := by
  unfold laneOpen laneEnd laneToks laneCred laneRes
  iintro ⟨#HR, ⟨Ho1, Ho2, Ho3, Ho4⟩, ⟨Hz1, Hz2, Hz3, Hz4⟩, HT, HC⟩
  imod (Rounds.cell_open ER (rd m) (g := ksCell c j) (Set.mem_univ (K (ksCell c j)))) $$ [Ho1 Hz1] with ⟨Hat1, #Hr1⟩
  · isplitr; · iapply (inv_sc m K c _) $$ HR
    isplitl [Ho1] <;> iassumption
  imod (Rounds.cell_open ER (rd m) (g := krCell c j) (Set.mem_univ (K (krCell c j)))) $$ [Ho2 Hz2] with ⟨Hat2, #Hr2⟩
  · isplitr; · iapply (inv_sc m K c _) $$ HR
    isplitl [Ho2] <;> iassumption
  imod (Rounds.cell_open ER (rd m) (g := vsCell c j) (Set.mem_univ (K (vsCell c j)))) $$ [Ho3 Hz3] with ⟨Hat3, #Hr3⟩
  · isplitr; · iapply (inv_sc m K c _) $$ HR
    isplitl [Ho3] <;> iassumption
  imod (Rounds.cell_open ER (rd m) (g := vrCell c j) (Set.mem_univ (K (vrCell c j)))) $$ [Ho4 Hz4] with ⟨Hat4, #Hr4⟩
  · isplitr; · iapply (inv_sc m K c _) $$ HR
    isplitl [Ho4] <;> iassumption
  imodintro
  isplitr
  · isplitr; · iexact Hr1
    isplitr; · iexact Hr2
    isplitr; · iexact Hr3
    iexact Hr4
  isplitl [Hat1 Hat2 Hat3 Hat4]
  · isplitl [Hat1]; · iexact Hat1
    isplitl [Hat2]; · iexact Hat2
    isplitl [Hat3]; · iexact Hat3
    iexact Hat4
  isplitl [HT]; · iexact HT
  iexact HC

/-- What the launch keeps for a device's call. -/
def Tk (c : Dev nD) : sProp 𝕄 :=
  iprop(∃ K, recs m K ∗ entryRes c ∗ (bigSep Finset.univ fun k : Fin 12 => openTok ER (scCell c k))
    ∗ (laneToks c 0 ∗ laneToks c 1 ∗ laneToks c 2) ∗ (laneCred c 0 ∗ laneCred c 1 ∗ laneCred c 2))
/-- What enters the call. -/
def Xk (c : Dev nD) : sProp 𝕄 :=
  iprop((∃ K, recs m K ∗ entryRes c ∗ laneRes c 0 ∗ laneRes c 1 ∗ laneRes c 2) ∗ levAts L lv)
/-- What the call leaves: the barrier's counter at zero. -/
def Yk (c : Dev nD) : sProp 𝕄 := semVal (barCell c) 0

/-- The kernel's own semaphores. -/
abbrev ownS (k : Fin 12) : SemLoc sig := .dma (osem k)

theorem own_eq (c : Dev nD) : (Pipeline.ownSems0 ownS c : sProp 𝕄) = iprop(laneEnd c 0 ∗ laneEnd c 1 ∗ laneEnd c 2) := by
  refine (bigSep_lanes fun k : Fin 12 => (semVal (scCell c k) 0 : sProp 𝕄)).trans ?_
  unfold laneEnd
  have ha (P Q R : sProp 𝕄) : iprop((P ∗ Q) ∗ R) = iprop(P ∗ Q ∗ R) := BI.equiv_iff.mp ⟨BI.sep_assoc, BI.sep_assoc'⟩
  simp only [ha]
  rfl

/-- At the call's entry the copy cells are opened. -/
theorem opening (c : Dev nD) : iprop(Tk m c ∗ Pipeline.ownSems0 ownS c ∗ levAts L lv) ⊢ (|={Set.univ}=> Xk m c : sProp 𝕄) := by
  rw [own_eq]
  unfold Tk Xk
  rw [bigSep_lanes]
  iintro ⟨⟨%K, #HR, HE, ⟨o0, o3, o6, o9, o1, o4, o7, o10, o2, o5, o8, o11⟩, ⟨HT0, HT1, HT2⟩, HC0, HC1, HC2⟩, ⟨Hz0, Hz1, Hz2⟩, #Hlev⟩
  imod (lane_open m K c 0) $$ [o0 o3 o6 o9 Hz0 HT0 HC0] with HL0
  · isplitr; · iexact HR
    isplitl [o0 o3 o6 o9]
    · unfold laneOpen
      isplitl [o0]; · iexact o0
      isplitl [o3]; · iexact o3
      isplitl [o6]; · iexact o6
      iexact o9
    isplitl [Hz0]; · iexact Hz0
    isplitl [HT0]; · iexact HT0
    iexact HC0
  imod (lane_open m K c 1) $$ [o1 o4 o7 o10 Hz1 HT1 HC1] with HL1
  · isplitr; · iexact HR
    isplitl [o1 o4 o7 o10]
    · unfold laneOpen
      isplitl [o1]; · iexact o1
      isplitl [o4]; · iexact o4
      isplitl [o7]; · iexact o7
      iexact o10
    isplitl [Hz1]; · iexact Hz1
    isplitl [HT1]; · iexact HT1
    iexact HC1
  imod (lane_open m K c 2) $$ [o2 o5 o8 o11 Hz2 HT2 HC2] with HL2
  · isplitr; · iexact HR
    isplitl [o2 o5 o8 o11]
    · unfold laneOpen
      isplitl [o2]; · iexact o2
      isplitl [o5]; · iexact o5
      isplitl [o8]; · iexact o8
      iexact o11
    isplitl [Hz2]; · iexact Hz2
    isplitl [HT2]; · iexact HT2
    iexact HC2
  imodintro
  isplitl
  · iexists K
    isplitr; · iexact HR
    isplitl [HE]; · iexact HE
    isplitl [HL0]; · iexact HL0
    isplitl [HL1]; · iexact HL1
    iexact HL2
  iexact Hlev

/-- The two scratch buffers, whole, at contents not chosen. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the call's point, and after it. -/
def Φ₀ (c : Dev nD) : sProp 𝕄 := iprop(Xk m c ∗ scr c ∗ ∃ r, prngReg c r)
def Φ₁ (c : Dev nD) : sProp 𝕄 := iprop(Yk c ∗ (laneEnd c 0 ∗ laneEnd c 1 ∗ laneEnd c 2) ∗ scr c ∗ ∃ r, prngReg c r)

/-- What the call does on a device, point by point: there is one point, and after it the result's block is `outAt`. -/
def dat0 (c : Dev nD) : Dat τ (Elt F) Unit ℕ UU ℕ cfg0 c where
  A w := V m c (Pipeline.arrRef spec0 w)
  after w _ := match w with
    | ⟨0, _⟩ => X0 m c
    | ⟨1, _⟩ => X1 m c
    | ⟨2, _⟩ => X2 m c
    | ⟨3, _⟩ => X3 m c
    | ⟨4, _⟩ => X4 m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun | 0 => dat0 m

/-- A staging buffer of a device, whole, at the contents `X`. -/
abbrev stgAt (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stgAt c b X := by
  unfold owns stgAt; rw [Memref.isWhole_whole b |>.set_eq_univ]; rfl

/-- What the body's obligation asks before the point and after it. -/
def preB (c : Dev nD) : sProp 𝕄 :=
  iprop(Φ₀ m c ∗ (dat0 m c).owesAt () t0_0.castSucc
    ∗ (∃ d, stgAt c cc0_stg0_0 ((dat0 m c).before (0 : Fin 6) t0_0 d))
    ∗ (∃ d, stgAt c cc0_stg1_0 ((dat0 m c).before (1 : Fin 6) t0_0 d))
    ∗ (∃ d, stgAt c cc0_stg2_0 ((dat0 m c).before (2 : Fin 6) t0_0 d))
    ∗ (∃ d, stgAt c cc0_stg3_0 ((dat0 m c).before (3 : Fin 6) t0_0 d))
    ∗ (∃ d, stgAt c cc0_stg4_0 ((dat0 m c).before (4 : Fin 6) t0_0 d))
    ∗ (∃ d, stgAt c cc0_stg5_0 ((dat0 m c).before (5 : Fin 6) t0_0 d)))
def postB (c : Dev nD) : sProp 𝕄 :=
  iprop(Φ₁ (F := F) c ∗ (dat0 m c).owesAt () t0_0.succ
    ∗ stgAt c cc0_stg0_0 (X0 m c) ∗ stgAt c cc0_stg1_0 (X1 m c) ∗ stgAt c cc0_stg2_0 (X2 m c) ∗ stgAt c cc0_stg3_0 (X3 m c) ∗ stgAt c cc0_stg4_0 (X4 m c) ∗ stgAt c cc0_stg5_0 (outAt m c))

/-- The body, from what the pipeline hands it to what the pipeline takes back. -/
theorem body_run (c : Dev nD) :
    preB m c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) (fun _ => postB m c) := by
  unfold preB Φ₀ Xk scr
  iintro ⟨⟨⟨⟨%K, #HR, HE, HL0, HL1, HL2⟩, #Hlev⟩, ⟨Hk, Hv⟩, Hreg⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have hx0 : g0 = X0 m c := by rw [hg0]; unfold Dat.before; rw [if_pos (fetch0_0 t0_0)]; rfl
  subst hx0
  have hx1 : g1 = X1 m c := by rw [hg1]; unfold Dat.before; rw [if_pos (fetch0_1 t0_0)]; rfl
  subst hx1
  have hx2 : g2 = X2 m c := by rw [hg2]; unfold Dat.before; rw [if_pos (fetch0_2 t0_0)]; rfl
  subst hx2
  have hx3 : g3 = X3 m c := by rw [hg3]; unfold Dat.before; rw [if_pos (fetch0_3 t0_0)]; rfl
  subst hx3
  have hx4 : g4 = X4 m c := by rw [hg4]; unfold Dat.before; rw [if_pos (fetch0_4 t0_0)]; rfl
  subst hx4
  unfold Dat.owesAt Pipeline.owesWithin
  icases Ho with ⟨%W, %hW, HO⟩
  rw [show (dat0 m c).owed t0_0.castSucc = O₀ c from rfl]
  iapply (body m K c)
  isplitr
  · isplitr; · iexact HR
    iexact Hlev
  isplitl [HO]
  · unfold oweE; iexists W; iexact HO
  isplitl [HE]; · iexact HE
  isplitl [HL0]; · iexact HL0
  isplitl [HL1]; · iexact HL1
  isplitl [HL2]; · iexact HL2
  isplitl [H0 H1 H2 H3 H4]
  · unfold inBlocks
    isplitl [H0]; · iexact H0
    isplitl [H1]; · iexact H1
    isplitl [H2]; · iexact H2
    isplitl [H3]; · iexact H3
    iexact H4
  isplitl [H5]
  · iexists g5; iexact H5
  isplitl [Hk]; · iexact Hk
  isplitl [Hv]; · iexact Hv
  unfold inBlocks oweE
  iintro ⟨⟨%W', HO⟩, HzB, ⟨H0, H1, H2, H3, H4⟩, H5, HZ, Hk, Hv⟩
  unfold postB Φ₁ Yk scr Dat.owesAt Pipeline.owesWithin
  rw [show (dat0 m c).owed t0_0.succ = 0 from rfl]
  isplitl [HzB HZ Hk Hv Hreg]
  · isplitl [HzB]; · iexact HzB
    isplitl [HZ]; · iexact HZ
    isplitl [Hk Hv]
    · isplitl [Hk]; · iexact Hk
      iexact Hv
    iexact Hreg
  isplitl [HO]
  · iexists W'; isplitr; · (ipureintro; exact fun _ _ => Or.inl trivial)
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The obligation of the call's body on a device. -/
theorem body_ok (c : Dev nD) : BodyObligation (dat0 (F := F) m c) (defs₀ (F := F)) 𝒱₀ () Set.univ := fun t => by
  rw [fin_N0 t]
  rw [bigSep_W0, bigSep_W0]
  simp only [owns_stg]
  exact body_run m c

theorem owed_first (c : Dev nD) : (pdats (F := F) m 0 c).owed 0 = 0 + O₀ c := (zero_add _).symm
theorem owed_last (c : Dev nD) : (pdats (F := F) m 0 c).owed (Fin.last _) = 0 := rfl

/-- What a device still owes is never to a staging cell, and sits above them. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  obtain ⟨t, ht⟩ := t
  match t, ht, h with
  | 0, _, h =>
    rcases O₀_pos (show 0 < O₀ c g i from h) with ⟨d, rfl⟩ | ⟨d, j, rfl | rfl⟩
    · exact ⟨by rw [L_tc]; exact Finset.mem_singleton_self _, by rw [lv_bar]; decide⟩
    · exact ⟨by rw [L_tc]; exact Finset.mem_singleton_self _, by rw [lv_kr]; decide⟩
    · exact ⟨by rw [L_tc]; exact Finset.mem_singleton_self _, by rw [lv_vr]; decide⟩
  | n + 1, _, h => exact absurd h (Nat.lt_irrefl 0)

/-- A device's buffers when the call starts, and when it ends. -/
abbrev W₀ (c : Dev nD) : Valuation τ sig (Elt F) := StableHlo.after hostOps0 (fun b => m (c, b))
/-- The result's buffer after the call. -/
abbrev res (c : Dev nD) : Buf (Elt F) ((c : Thread nD τ).loc main_v3) := (dat0 m c).arrAt 5 cfg0.N
def W₁ (c : Dev nD) : Valuation τ sig (Elt F) := Function.update (W₀ m c) (Proc.devRef .tc main_v3) (res m c)

theorem W₁_v3 (c : Dev nD) : W₁ m c (Proc.devRef .tc main_v3) = res m c := Function.update_self ..
theorem W₁_ne (c : Dev nD) (b : Ref sig .tc) (h : b ≠ main_v3) : W₁ m c (Proc.devRef .tc b) = W₀ m c (Proc.devRef .tc b) :=
  Function.update_of_ne (StableHlo.devRef_ne_of_ne h) ..

/-- The unscoped buffers, and those among them that no window stages. -/
def bufs : Finset (DevRef τ sig) := (StableHlo.tcRefs τ sig).filter fun b => ¬ b.isScoped
def rest : Finset (DevRef τ sig) := {Proc.devRef .tc main_arg2, Proc.devRef .tc main_arg3}

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem call_in (c : Dev nD) : iprop(Pipeline.scopedRest (Pipeline.pin (pcfgs (F := F)) adm 0).spec c ∗ (∃ r, prngReg c r)
      ∗ StableHlo.held (c.tc : Thread nD τ) ∅ (W₀ m c) ∗ Xk m c) ⊢ (pdats m 0 c).Φ 0 := by
  rw [show (pdats m 0 c).Φ 0 = Φ₀ m c from rfl,
    show (Pipeline.scopedRest (Pipeline.pin (pcfgs (F := F)) adm 0).spec c : sProp 𝕄) = scr c from scopedRest0_eq c]
  unfold Φ₀
  iintro ⟨Hs, Hp, -, HX⟩
  isplitl [HX]; · iexact HX
  isplitl [Hs]; · iexact Hs
  iexact Hp

theorem call_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W₁ m c) ∗ Pipeline.ownSems0 ownS c ∗ Yk c) := by
  rw [show (pdats m 0 c).Φ (Fin.last _) = Φ₁ c from rfl, own_eq,
    show (Pipeline.scopedRest (Pipeline.pin (pcfgs (F := F)) adm 0).spec c : sProp 𝕄) = scr c from scopedRest0_eq c]
  unfold Φ₁ StableHlo.held
  rw [BI.bigSep_empty]
  iintro ⟨HY, HZ, Hs, Hp⟩
  isplitl [Hs]; · iexact Hs
  isplitl [Hp]; · iexact Hp
  isplitr; · iempintro
  isplitl [HZ]; · iexact HZ
  iexact HY

theorem share_full (c : Dev nD) (w : Fin cfg0.W) : (dat0 m c).share w = fullShare := by unfold Dat.share; split <;> rfl

theorem arr_last (c : Dev nD) (w : Fin 6) : (dat0 m c).arrAt w cfg0.N = W₁ m c (Proc.devRef .tc (Pipeline.arrRef spec0 w)) := by
  fin_cases w
  · exact ((dat0 m c).arrAt_in 0 rfl _).trans (W₁_ne m c main_arg0 (by decide)).symm
  · exact ((dat0 m c).arrAt_in 1 rfl _).trans (W₁_ne m c main_arg1 (by decide)).symm
  · exact ((dat0 m c).arrAt_in 2 rfl _).trans (W₁_ne m c main_v1 (by decide)).symm
  · exact ((dat0 m c).arrAt_in 3 rfl _).trans (W₁_ne m c main_v2 (by decide)).symm
  · exact ((dat0 m c).arrAt_in 4 rfl _).trans (W₁_ne m c main_arg4 (by decide)).symm
  · exact (W₁_v3 m c).symm

theorem ownFacts : Pipeline.OwnSemFacts spec0 ownS := by decide

set_option backward.isDefEq.respectTransparency.types false in
/-- The call as a segment of the program. -/
def call : Pipeline.RegionSeg (pcfgs (F := F)) adm (pdats m) () defs₀ 𝒱₀ L lv 0 :=
  Pipeline.RegionSeg.ofTalk (pcfgs (F := F)) adm (pdats m) () defs₀ 𝒱₀ L lv 0 ownS ownFacts
    ∅ rest (Finset.empty_subset _) kit0 rfl (fun c => (body_ok m c).loose)
    (fun _ => 0) O₀ (owed_first m) (owed_last m) (fun _ => rfl) (share_full m)
    (W₀ m) (W₁ m) (fun c b hb => by
      have hb' : b = Proc.devRef .tc main_arg2 ∨ b = Proc.devRef .tc main_arg3 := by
        simpa [rest] using hb
      rcases hb' with rfl | rfl
      · exact W₁_ne m c main_arg2 (by decide)
      · exact W₁_ne m c main_arg3 (by decide))
    (Tk m) Yk (Xk m) Yk (opening m) (call_in m) (call_out m)
    (fun c => by iintro H; imodintro; iexact H)
    (fun _ => 0)
    ⟨fun c w s => by rw [L_tc]; exact Finset.mem_singleton_self _,
      fun c w s => (by fin_cases w <;> fin_cases s <;> exact Nat.le_refl 0),
      fun c t g i h => owed_above m c t g i h⟩
    (fun _ => iprop(emp))
    (fun c w => rfl) (fun c w => arr_last m c w)

end Region

end Cert.KProof

end
-- ==== Proof.Launch.lean ====
/-
# The launch of the four devices, and the run of the whole program
-/
module

public import proofs.«01_k».proof.Proof.Region
public import proofs.«01_k».proof.Proof.Gen.KernelIdeal.Frame
public import Idealize.ShloMosaic.Lib.Quiescent
public import Idealize.ShloMosaic.Lib.Pipeline.Regions
public import Idealize.ShloMosaic.Lib.Pipeline.RegionTalk

@[expose] public section

set_option maxRecDepth 16384

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens at launch -/

theorem osem_inj : Function.Injective fun k : Fin 12 => (SemLoc.dma (osem k) : SemLoc sig) := by decide
theorem osem_ne_bar : ∀ k : Fin 12, (SemLoc.dma (osem k) : SemLoc sig) ≠ .reg barS := by decide

theorem cellAt_inj {c d : Dev nD} {s t : SemLoc sig} (h : cellAt c s = cellAt d t) : c = d ∧ s = t :=
  ⟨congrArg (fun g : GSem nD τ sig => g.1.1) h, congrArg Prod.snd h⟩

theorem bar_inj : Function.Injective (barCell : Dev nD → GSem nD τ sig) := fun _ _ h => (cellAt_inj h).1
theorem sc_inj : Function.Injective fun p : Dev nD × Fin 12 => scCell p.1 p.2 := fun _ _ h =>
  Prod.ext (cellAt_inj h).1 (osem_inj (cellAt_inj h).2)

theorem cells_disjoint : Disjoint barCells scCells := by
  rw [Finset.disjoint_left]
  intro g h h'
  obtain ⟨c, -, rfl⟩ := Finset.mem_image.mp h
  obtain ⟨p, -, h⟩ := Finset.mem_image.mp h'
  exact osem_ne_bar p.2 (cellAt_inj h).2

/-- The fifteen duties that a device's cells have: three of its barrier cell, one of each copy cell. -/
def dutyS (k : Fin 15) : SemLoc sig := if h : k.val < 3 then .reg barS else .dma (osem ⟨k.val - 3, by omega⟩)
def dutyD (k : Fin 15) : Fin 3 := if h : k.val < 3 then ⟨k.val, h⟩ else 0
theorem duty_inj : Function.Injective fun k : Fin 15 => (dutyS k, dutyD k) := by decide
def tokAt (p : Dev nD × Fin 15) : GSem nD τ sig × ℕ × Fin 3 := (cellAt p.1 (dutyS p.2), 0, dutyD p.2)
theorem tokAt_inj : Function.Injective tokAt := fun p q h => by
  have h1 := cellAt_inj (congrArg Prod.fst h)
  exact Prod.ext h1.1 (duty_inj (Prod.ext h1.2 (congrArg (fun t : GSem nD τ sig × ℕ × Fin 3 => t.2.2) h)))
def launchToks : Finset (GSem nD τ sig × ℕ × Fin 3) := Finset.univ.image tokAt

/-- The tokens of a device's own cells: of the barrier cell, and lane by lane. -/
def barOwn (c : Dev nD) : sProp 𝕄 := iprop(dutyTok ER (barCell c) 0 0 ∗ dutyTok ER (barCell c) 0 1 ∗ dutyTok ER (barCell c) 0 2)
def laneOwn (c : Dev nD) (j : Fin 3) : sProp 𝕄 :=
  iprop(dutyTok ER (ksCell c j) 0 0 ∗ dutyTok ER (krCell c j) 0 0 ∗ dutyTok ER (vsCell c j) 0 0 ∗ dutyTok ER (vrCell c j) 0 0)
/-- The tokens of the three signals a device gives. -/
def barToks (c : Dev nD) : sProp 𝕄 :=
  iprop(dutyTok ER (barCell (fwd 0 c)) 0 0 ∗ dutyTok ER (barCell (fwd 1 c)) 0 1 ∗ dutyTok ER (barCell (fwd 2 c)) 0 2)

theorem assoc_eq (P Q R : sProp 𝕄) : iprop((P ∗ Q) ∗ R) = iprop(P ∗ Q ∗ R) := BI.equiv_iff.mp ⟨BI.sep_assoc, BI.sep_assoc'⟩

/-- All the tokens of the launch, device by device. -/
theorem toks_eq : bigSep launchToks (fun x => (dutyTok ER x.1 x.2.1 x.2.2 : sProp 𝕄))
    = bigSep Finset.univ fun c : Dev nD => iprop(barOwn c ∗ laneOwn c 0 ∗ laneOwn c 1 ∗ laneOwn c 2) := by
  unfold launchToks
  rw [bigSep_image_of_injOn tokAt_inj.injOn, bigSep_univ_prod]
  refine bigSep_congr fun c _ => ?_
  rw [bigSep_univ_eq_bigSepL [0, 1, 2, 3, 6, 9, 12, 4, 7, 10, 13, 5, 8, 11, 14] (by decide) (by decide)]
  unfold barOwn laneOwn
  simp only [assoc_eq]
  rfl

/-- The tokens of the barrier cells, each at the device that signals. -/
theorem bar_around : (bigSep Finset.univ fun c : Dev nD => (barOwn c : sProp 𝕄)) = bigSep Finset.univ fun c : Dev nD => barToks c := by
  unfold barOwn barToks
  rw [bigSep_sep', bigSep_sep', bigSep_sep', bigSep_sep',
    bigSep_univ_equiv (rot 0) (fun c : Dev nD => (dutyTok ER (barCell c) 0 0 : sProp 𝕄)),
    bigSep_univ_equiv (rot 1) (fun c : Dev nD => (dutyTok ER (barCell c) 0 1 : sProp 𝕄)),
    bigSep_univ_equiv (rot 2) (fun c : Dev nD => (dutyTok ER (barCell c) 0 2 : sProp 𝕄))]
  rfl

/-- The tokens of a lane's receiving cells, each at the device that copies there. -/
theorem lane_around (j : Fin 3) :
    (bigSep Finset.univ fun c : Dev nD => (laneOwn c j : sProp 𝕄)) = bigSep Finset.univ fun c : Dev nD => laneToks c j := by
  unfold laneOwn laneToks
  rw [bigSep_sep', bigSep_sep', bigSep_sep', bigSep_sep', bigSep_sep', bigSep_sep',
    bigSep_univ_equiv (rot j) (fun c : Dev nD => (dutyTok ER (krCell c j) 0 0 : sProp 𝕄)),
    bigSep_univ_equiv (rot j) (fun c : Dev nD => (dutyTok ER (vrCell c j) 0 0 : sProp 𝕄))]
  rfl

theorem toks_around : bigSep launchToks (fun x => (dutyTok ER x.1 x.2.1 x.2.2 : sProp 𝕄))
    = bigSep Finset.univ fun c : Dev nD => iprop(barToks c ∗ laneToks c 0 ∗ laneToks c 1 ∗ laneToks c 2) := by
  rw [toks_eq, bigSep_sep', bigSep_sep', bigSep_sep', bigSep_sep', bigSep_sep', bigSep_sep', bar_around, lane_around, lane_around, lane_around]

/-! ## What the devices owe one another -/

theorem tally_cell (c d : Dev nD) (s t : SemLoc sig) (n : ℕ) :
    tallyAt (cellAt d t) () n (cellAt c s) () = if d = c ∧ t = s then n else 0 := by
  rw [tallyAt_apply]
  refine if_congr ⟨fun h => ?_, fun h => ?_⟩ rfl rfl
  · exact ⟨((cellAt_inj h.1).1).symm, ((cellAt_inj h.1).2).symm⟩
  · exact ⟨by rw [h.1, h.2], rfl⟩

theorem fwd_eq (j : Fin 3) (c d : Dev nD) : fwd j d = c ↔ d = bwd j c := by revert j c d; decide

theorem kr_ne_bar (j : Fin 3) : ((.dma (krS j) : SemLoc sig) = .reg barS) = False := eq_false (by revert j; decide)
theorem vr_ne_bar (j : Fin 3) : ((.dma (vrS j) : SemLoc sig) = .reg barS) = False := eq_false (by revert j; decide)
theorem bar_ne_kr (j : Fin 3) : ((.reg barS : SemLoc sig) = .dma (krS j)) = False := eq_false (by revert j; decide)
theorem bar_ne_vr (j : Fin 3) : ((.reg barS : SemLoc sig) = .dma (vrS j)) = False := eq_false (by revert j; decide)
theorem kr_ne_vr (i j : Fin 3) : ((.dma (krS i) : SemLoc sig) = .dma (vrS j)) = False := eq_false (by revert i j; decide)
theorem vr_ne_kr (i j : Fin 3) : ((.dma (vrS i) : SemLoc sig) = .dma (krS j)) = False := eq_false (by revert i j; decide)
theorem kr_eq (i j : Fin 3) : ((.dma (krS i) : SemLoc sig) = .dma (krS j)) = (i = j) := propext (by revert i j; decide)
theorem vr_eq (i j : Fin 3) : ((.dma (vrS i) : SemLoc sig) = .dma (vrS j)) = (i = j) := propext (by revert i j; decide)

theorem owed_bar (d c : Dev nD) : O₀ d (barCell c) ()
    = (if d = bwd 2 c then 1 else 0) + (if d = bwd 1 c then 1 else 0) + if d = bwd 0 c then 1 else 0 := by
  unfold O₀ OB1 OB2 OK0 OK1 OK2 OV0 OV1 OV2
  simp only [Pi.add_apply, Finsupp.add_apply, Pi.zero_apply, Finsupp.zero_apply, tally_cell, kr_ne_bar, vr_ne_bar, and_false, and_true,
    if_false, fwd_eq, Nat.zero_add]
theorem owed_kr (d c : Dev nD) (j : Fin 3) : O₀ d (krCell c j) () = if d = bwd j c then NK else 0 := by
  unfold O₀ OB1 OB2 OK0 OK1 OK2 OV0 OV1 OV2
  simp only [Pi.add_apply, Finsupp.add_apply, Pi.zero_apply, Finsupp.zero_apply, tally_cell, bar_ne_kr, vr_ne_kr, kr_eq, and_false,
    if_false, fwd_eq, Nat.zero_add, Nat.add_zero]
  generalize NK = n
  fin_cases j <;> simp
theorem owed_vr (d c : Dev nD) (j : Fin 3) : O₀ d (vrCell c j) () = if d = bwd j c then NV else 0 := by
  unfold O₀ OB1 OB2 OK0 OK1 OK2 OV0 OV1 OV2
  simp only [Pi.add_apply, Finsupp.add_apply, Pi.zero_apply, Finsupp.zero_apply, tally_cell, bar_ne_vr, kr_ne_vr, vr_eq, and_false,
    if_false, fwd_eq, Nat.zero_add, Nat.add_zero]
  generalize NV = n
  fin_cases j <;> simp

theorem sum_at (e : Dev nD) (n : ℕ) : (∑ d : Dev nD, if d = e then n else 0) = n := by
  rw [Finset.sum_ite_eq' Finset.univ e fun _ => n, if_pos (Finset.mem_univ _)]

/-- What all the devices together owe a cell is what its owner waits for. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, sum_at, sum_at, sum_at]
theorem launch_kr (c : Dev nD) (j : Fin 3) :
    tallyOn (krCell c j) (launchCredit (Pipeline.owing O₀) 0 (krCell c j)) = (tallyAt (krCell c j) () NK : CellTallies nD τ sig Unit) := by
  unfold tallyAt; refine congrArg _ (Finsupp.ext fun u => ?_); cases u
  rw [Pipeline.launchCredit_owing, Finsupp.single_eq_same, Finset.sum_congr rfl fun d _ => owed_kr d c j, sum_at]
theorem launch_vr (c : Dev nD) (j : Fin 3) :
    tallyOn (vrCell c j) (launchCredit (Pipeline.owing O₀) 0 (vrCell c j)) = (tallyAt (vrCell c j) () NV : CellTallies nD τ sig Unit) := by
  unfold tallyAt; refine congrArg _ (Finsupp.ext fun u => ?_); cases u
  rw [Pipeline.launchCredit_owing, Finsupp.single_eq_same, Finset.sum_congr rfl fun d _ => owed_vr d c j, sum_at]

/-- The seven semaphores on which a device is paid by others. -/
abbrev paidL : List (SemLoc sig) := [.reg barS, .dma (krS 0), .dma (vrS 0), .dma (krS 1), .dma (vrS 1), .dma (krS 2), .dma (vrS 2)]

theorem creds (c : Dev nD) : (Pipeline.launchCred O₀ c : sProp 𝕄)
    ⊢ iprop(cred (tallyAt (barCell c) () 3) ∗ laneCred c 0 ∗ laneCred c 1 ∗ laneCred c 2) := by
  unfold Pipeline.launchCred laneCred
  refine BIBase.Entails.trans (bigSep_subset (Finset.subset_univ paidL.toFinset)) ?_
  rw [bigSep_eq_bigSepL_of_eq paidL rfl (by decide)]
  simp only [bigSepL_cons_cons, bigSepL_singleton, assoc_eq]
  rw [launch_bar, launch_kr, launch_kr, launch_kr, launch_vr, launch_vr, launch_vr]
  exact BI.Entails.refl _

/-! ## The launch -/

section Launch
variable (m : Mem F) (ρ : Dev nD → PrngReg)

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

/-- The launch element: the staging cells' and the exchange's. -/
def u₀ : UU :=
  (initOf (Pipeline.cells (Pipeline.pin (pcfgs (F := F)) adm) cellOf_inj) (Pipeline.launchToks (Pipeline.pin (pcfgs (F := F)) adm) cellOf_inj),
    launchOf barCells scCells launchToks)

/-- The exchange's launch element waits at device 0. -/
def G (c : Dev nD) : sProp 𝕄 := if c = 0 then BI.own (ER (launchOf barCells scCells launchToks)) else iprop(emp)
theorem G_eq : bigSep Finset.univ (G (F := F)) = BI.own (ER (launchOf barCells scCells launchToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What beside the buffers a device carries to the call. -/
def beside (c : Dev nD) : sProp 𝕄 := iprop(Tk m c ∗ (∃ r, prngReg c r) ∗ ∃ W, owes (c : Thread nD τ) (O₀ c) W)

abbrev T₀ (c : Dev nD) : sProp 𝕄 := iprop(StableHlo.held (c : Thread nD τ) bufs (fun b => m (c, b)) ∗ beside m c)
abbrev Tₙ (c : Dev nD) : sProp 𝕄 := iprop(StableHlo.held (c : Thread nD τ) bufs (W₁ m c) ∗ semVal (barCell c) 0)

/-- Of the exchange, what one device has for itself. -/
def mine (c : Dev nD) : sProp 𝕄 :=
  iprop(atPos ER (barCell c) 0 ∅ 0 ∗ (bigSep Finset.univ fun k : Fin 12 => openTok ER (scCell c k))
    ∗ (barToks c ∗ laneToks c 0 ∗ laneToks c 1 ∗ laneToks c 2))
/-- The rest of what it is launched with. -/
def given (c : Dev nD) : sProp 𝕄 :=
  iprop(StableHlo.held (c : Thread nD τ) bufs (fun b => m (c, b)) ∗ (cred (tallyAt (barCell c) () 3) ∗ laneCred c 0 ∗ laneCred c 1 ∗ laneCred c 2)
    ∗ owes (c : Thread nD τ) (O₀ c) ∅ ∗ ∃ r, prngReg c r)

theorem T₀_intro (K : GSem nD τ sig → ℕ) (c : Dev nD) : iprop(recs m K ∗ (mine c ∗ given m c)) ⊢ T₀ m c := by
  unfold mine given T₀ beside Tk entryRes barToks
  iintro ⟨#HR, ⟨Hat, Ho, HB, HL⟩, Hh, ⟨HcB, HcL⟩, HO, Hp⟩
  isplitl [Hh]; · iexact Hh
  isplitr [HO Hp]
  · iexists K
    isplitr; · iexact HR
    isplitl [Hat HB HcB]
    · isplitl [HB]; · iexact HB
      isplitl [HcB]; · iexact HcB
      iexact Hat
    isplitl [Ho]; · iexact Ho
    isplitl [HL]; · iexact HL
    iexact HcL
  isplitl [Hp]; · iexact Hp
  iexists ∅; iexact HO

/-- From what the launch hands out, the exchange is set up and every device has its part. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(given m c ∗ (semVal (barCell c) 0 ∗ G c)) : sProp 𝕄) := by
    rw [show unscopedBufs c (fun b => m ((c : Thread nD τ).loc b)) = StableHlo.held (c : Thread nD τ) bufs (fun b => m (c, b)) from
        unscopedBufs_held c (fun b => m (c, b)),
      unscopedSems0_eq]
    unfold given
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (by unfold barCells; rw [bigSep_image_of_injOn bar_inj.injOn])
  have hat : bigSep barCells (fun g => (atPos ER g 0 ∅ 0 : sProp 𝕄)) ⊢ bigSep Finset.univ (fun c : Dev nD => (atPos ER (barCell c) 0 ∅ 0 : sProp 𝕄)) :=
    Entails.of_eq (by unfold barCells; rw [bigSep_image_of_injOn bar_inj.injOn])
  have hopen : bigSep scCells (fun g => (openTok ER g : sProp 𝕄))
      ⊢ bigSep Finset.univ (fun c : Dev nD => bigSep Finset.univ fun k : Fin 12 => openTok ER (scCell c k)) :=
    Entails.of_eq (by unfold scCells; rw [bigSep_image_of_injOn sc_inj.injOn, bigSep_univ_prod])
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(given m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells scCells launchToks)) from Entails.of_eq G_eq) $$ HG
  imod (Rounds.fund_launch ER (rd m) cells_disjoint (fun g _ h => h) launchToks) $$ [Hv Hu] with ⟨%K, -, #Hinv, #Hr, Hat, Hopen, Htok⟩
  · isplitl [Hv]
    · iapply hv $$ Hv
    · iexact Hu
  imodintro
  iapply (bigSep_with_persistent (R := recs m K) (Φ := fun c => iprop(mine c ∗ given m c)) fun c _ => T₀_intro m K c)
  isplitr
  · unfold recs
    isplitr; · iexact Hinv
    iexact Hr
  iapply (Entails.of_eq (bigSep_sep' _ _ _).symm)
  isplitr [HB]
  · unfold mine
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (toks_around (F := F))) $$ Htok
  · iexact HB

/-! ## The program -/

/-- The two reshapes before the call. -/
def seg0 : Pipeline.HostSeg (Ix := Unit) (Name := ℕ) (U := UU) (Lvl := ℕ) (pcfgs (F := F)) defs₀ 𝒱₀ L lv :=
  Pipeline.HostSeg.ofOps _ _ _ _ _ bufs hostOps0 (fun op hop => Pipeline.sub_ucRefs op (List.forall_iff_forall_mem.mp hostOps0_sub op hop))
    (List.forall_iff_forall_mem.mp hostOps0_fresh) (fun c b => m (c, b)) (beside m)

def segs : List (Pipeline.Seg (pcfgs (F := F)) adm (pdats m) () defs₀ 𝒱₀ L lv) := [.host (seg0 m), .region (call m)]

theorem arr_sub : Pipeline.arrRefs (τ := τ) spec0 ⊆ bufs := by decide
theorem arr_rest : bufs \ Pipeline.arrRefs (τ := τ) spec0 = rest := by decide

set_option backward.isDefEq.respectTransparency.types false in
theorem call_pre (c : Dev nD) : iprop(StableHlo.held (c : Thread nD τ) bufs (W₀ m c) ∗ beside m c) ⊢ (call m).pre c := by
  show _ ⊢ iprop(StableHlo.held (c.tc : Thread nD τ) (Pipeline.arrRefs spec0) (W₀ m c) ∗ (∃ r, prngReg c r)
    ∗ (StableHlo.held (c.tc : Thread nD τ) rest (W₀ m c) ∗ emp) ∗ Tk m c ∗ ∃ Wd, owes (c : Thread nD τ) (0 + O₀ c) Wd)
  rw [StableHlo.held_sub_split (c : Thread nD τ) arr_sub, arr_rest, zero_add]
  unfold beside
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

set_option backward.isDefEq.respectTransparency.types false in
theorem call_post (c : Dev nD) : (call m).post c ⊢ iprop(Tₙ m c ∗ ∃ W, owes (c : Thread nD τ) (0 : CellTallies nD τ sig Unit) W) := by
  show iprop(StableHlo.held (c.tc : Thread nD τ) (Pipeline.arrRefs spec0) (W₁ m c) ∗ (∃ r, prngReg c r)
    ∗ (StableHlo.held (c.tc : Thread nD τ) rest (W₁ m c) ∗ emp) ∗ Yk c ∗ ∃ Wd, owes (c : Thread nD τ) (0 : CellTallies nD τ sig Unit) Wd) ⊢ _
  unfold Tₙ Yk
  rw [StableHlo.held_sub_split (c : Thread nD τ) arr_sub, arr_rest]
  iintro ⟨Ha, -, ⟨Hr, -⟩, HY, HO⟩
  isplitr [HO]
  · isplitl [Ha Hr]
    · isplitl [Ha] <;> iassumption
    iexact HY
  iexact HO

/-- The buffers one by one. -/
theorem bufs_eq (c : Dev nD) (W : Valuation τ sig (Elt F)) : (StableHlo.held (c : Thread nD τ) bufs W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_arg4 ↦{fullShare} W main_arg4) ∗ ((c : Thread nD τ).loc main_v1 ↦{fullShare} W main_v1)
      ∗ ((c : Thread nD τ).loc main_v2 ↦{fullShare} W main_v2) ∗ ((c : Thread nD τ).loc main_v3 ↦{fullShare} W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

set_option backward.isDefEq.respectTransparency.types false in
/-- The run: from any memory with all counters at zero the program terminates on the four devices; every device's arguments are
as they were, its result is `res`, and every counter is at zero again. -/
theorem run_main : θ_run defs (onTc (τ := τ) (main (F := F))) ⟨m, fun _ => 0, ρ⟩
    (fun r => (∀ c : Dev nD, r.2.mem ((c : Thread nD τ).loc main_v3) = res m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [Gen.main_segs adm (pdats m) () 𝒱₀ L lv (seg0 m) (call m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_eq]; iexact HX)
    (T₀ := T₀ m) (Tₙ := Tₙ m)
    (hch := ⟨fun c => .rfl, fun c => call_pre m c, fun c => call_post m c⟩)
    (hinit := init m ρ)
    (QY := fun c s => (s.mem ((c : Thread nD τ).loc main_v3) = W₁ m c main_v3
        ∧ s.mem ((c : Thread nD τ).loc main_arg0) = W₁ m c main_arg0 ∧ s.mem ((c : Thread nD τ).loc main_arg1) = W₁ m c main_arg1
        ∧ s.mem ((c : Thread nD τ).loc main_arg2) = W₁ m c main_arg2 ∧ s.mem ((c : Thread nD τ).loc main_arg3) = W₁ m c main_arg3
        ∧ s.mem ((c : Thread nD τ).loc main_arg4) = W₁ m c main_arg4) ∧ s.sem (barCell c) = 0)
    (hfin := fun c s' => by
      dsimp only [Tₙ]; rw [bufs_eq]
      iintro ⟨⟨⟨H0, H1, H2, H3, H4, -, -, H5⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h5, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨h5, h0, h1, h2, h3, h4⟩, -⟩ := h c
        refine ⟨h5.trans (W₁_v3 m c), h0.trans ((W₁_ne m c main_arg0 (by decide)).trans (V_main_arg0 m c)),
          h1.trans ((W₁_ne m c main_arg1 (by decide)).trans (V_main_arg1 m c)),
          h2.trans ((W₁_ne m c main_arg2 (by decide)).trans (V_main_arg2 m c)),
          h3.trans ((W₁_ne m c main_arg3 (by decide)).trans (V_main_arg3 m c)),
          h4.trans ((W₁_ne m c main_arg4 (by decide)).trans (V_main_arg4 m c))⟩,
      sem_eq_zero hs fun c sm hsm => by
        obtain rfl := unscoped_eq sm hsm
        exact (h c).2⟩)

end Launch

end Cert.KProof

end
-- ==== Proof.Heads.lean ====
module

public import proofs.«01_k».proof.Proof.Vals

@[expose] public section

set_option maxRecDepth 16384

noncomputable section

namespace Cert.KProof

open Cert.KernelIdeal Cert.KernelIdeal.Gen
open Idealize.ShloMosaic Idealize.ShloMosaic.TcCoe

variable {F : FTy → Type} [FloatOps F]

/-! ## One head of one batch row, whatever the head

The kernel treats its four heads alike: each takes 64 columns of the queries, the keys and the values, at an offset `o`. -/

/-- The masked exponentials of the scores of the head at columns `o …` against one slot's keys. -/
def expH (o : ℕ) (h : S256x256.Slices ![0, o] S256x64) (q k : FVec F S256x256 .bf16) (mk : FVec F S256x256 .f32) :
    FVec F S256x256 .f32 :=
  mulf (exp (matmul dot_S256x64_S256x64_S256x256_1_1_0_0_n_n none (extractStridedSlice S256x64 ![0, o] q h)
    (extractStridedSlice S256x64 ![0, o] k h) (constant S256x256 .f32 0x00000000#32))) mk

/-- A running row sum with one slot's exponentials added. -/
def addRow (s : FVec F S256x1 .f32) (e : FVec F S256x256 .f32) : FVec F S256x1 .f32 :=
  addf s (shapeCast S256x1 (multiReduction .add [1] S256 e 0x00000000#32 reduces_S256x256_S256 (.inl rfl) rfl)
    shapeCasts_S256_S256x1)

/-- A running context with one slot's weighted values added. -/
def addCtx (o : ℕ) (h : S256x256.Slices ![0, o] S256x64) (a : FVec F S256x64 .f32) (e : FVec F S256x256 .f32)
    (v : FVec F S256x256 .bf16) : FVec F S256x64 .f32 :=
  addf a (matmul dot_S256x256_S256x64_S256x64_1_0_0_1_n_n none (truncf .bf16 e bitsLt_bf16_f32)
    (extractStridedSlice S256x64 ![0, o] v h) (constant S256x64 .f32 0x00000000#32))

/-- One head's normalised context over the four slots, in the order the kernel meets them. -/
def headH (o : ℕ) (h : S256x256.Slices ![0, o] S256x64) (q : FVec F S256x256 .bf16)
    (k v : Fin 4 → FVec F S256x256 .bf16) (mk : Fin 4 → FVec F S256x256 .f32) : FVec F S256x64 .f32 :=
  divf
    (addCtx o h (addCtx o h (addCtx o h (addCtx o h (broadcast S256x64 (Scalar.ofBits .f32 0x00000000#32))
      (expH o h q (k 0) (mk 0)) (v 0)) (expH o h q (k 1) (mk 1)) (v 1)) (expH o h q (k 2) (mk 2)) (v 2))
      (expH o h q (k 3) (mk 3)) (v 3))
    (broadcastTo S256x64
      (addRow (addRow (addRow (addRow (broadcast S256x1 (Scalar.ofBits .f32 0x00000000#32))
        (expH o h q (k 0) (mk 0))) (expH o h q (k 1) (mk 1))) (expH o h q (k 2) (mk 2))) (expH o h q (k 3) (mk 3)))
      broadcasts_S256x1_S256x64)

/-- One batch row's result: the four heads side by side, times the output weights. -/
def rowH (q : FVec F S256x256 .bf16) (k v : Fin 4 → FVec F S256x256 .bf16) (mk : Fin 4 → FVec F S256x256 .f32)
    (wo : FVec F S256x512 .bf16) : FVec F S1x256x512 .f32 :=
  shapeCast S1x256x512
    (matmul dot_S256x256_S256x512_S256x512_1_0_0_1_n_n none
      (truncf .bf16
        (concatenate S256x256 1
          [⟨S256x64, headH 0 slices_S256x256_o0_0_S256x64 q k v mk⟩,
           ⟨S256x64, headH 64 slices_S256x256_o0_64_S256x64 q k v mk⟩,
           ⟨S256x64, headH 128 slices_S256x256_o0_128_S256x64 q k v mk⟩,
           ⟨S256x64, headH 192 slices_S256x256_o0_192_S256x64 q k v mk⟩]
          concatenates_S256x64_S256x64_S256x64_S256x64_S256x256_d1) bitsLt_bf16_f32)
      wo (constant S256x512 .f32 0x00000000#32))
    shapeCasts_S256x512_S1x256x512

/-- The four slots' masks in the order device `c` meets them: its own, then those one, three and two places back. -/
def mks (m : Mem F) (c : Dev nD) : Fin 4 → FVec F S256x256 .f32 := ![v217 m c, v351 m c, v457 m c, v563 m c]
/-- The keys of batch row 0 and of batch row 1, slot by slot in that order. -/
def ks0 (m : Mem F) (c : Dev nD) : Fin 4 → FVec F S256x256 .bf16 := ![v200 m c, v332 m c, v438 m c, v544 m c]
/-- The slots' keys of batch row 1. -/
def ks1 (m : Mem F) (c : Dev nD) : Fin 4 → FVec F S256x256 .bf16 := ![v202 m c, v336 m c, v442 m c, v548 m c]
/-- The values likewise. -/
def vs0 (m : Mem F) (c : Dev nD) : Fin 4 → FVec F S256x256 .bf16 :=
  ![k0_pay56 (v290 m c), v649 m c, v690 m c, v731 m c]
/-- The slots' values of batch row 1. -/
def vs1 (m : Mem F) (c : Dev nD) : Fin 4 → FVec F S256x256 .bf16 :=
  ![k0_pay57 (v292 m c), v652 m c, v693 m c, k0_pay172 (v733 m c)]

/-- What the kernel stores for batch row 0 is that row's result. -/
theorem out0_eq (m : Mem F) (c : Dev nD) : out0 m c = rowH (v123 m c) (ks0 m c) (vs0 m c) (mks m c) (v117 m c) := rfl
/-- What the kernel stores for batch row 1 is that row's result. -/
theorem out1_eq (m : Mem F) (c : Dev nD) : out1 m c = rowH (v129 m c) (ks1 m c) (vs1 m c) (mks m c) (v117 m c) := rfl

end Cert.KProof

end
-- ==== Proof.Blocks.lean ====
module

public import proofs.«01_k».proof.Proof.Heads
public import proofs.«01_k».proof.Proof.Region
public import Idealize.ShloMosaic.Lib.Pointwise
public import Idealize.ShloMosaic.Lib.Pipeline.ValueKit

@[expose] public section

set_option maxRecDepth 16384

noncomputable section

namespace Cert.KProof

open Cert.KernelIdeal Cert.KernelIdeal.Gen
open Idealize.ShloMosaic Idealize.ShloMosaic.TcCoe

/-! ## The blocks the body works on, read off the device's arguments -/

section Any

variable {F : FTy → Type} [FloatOps F] (m : Mem F) (c : Dev nD)

/-- The result array after the call is what the body leaves in its block. -/
theorem res_eq : res m c = outAt m c := by
  unfold res
  refine (dat0 m c).arrAt_eq_of_after_last 5 t0_0 (by decide +kernel) _ fun j => ?_
  blk_simp
  rfl

/-- Window 0's staged block is the whole of the array it reads. -/
theorem X0_blk : X0 m c = V m c (Pipeline.arrRef spec0 0) := by
  funext j
  unfold X0
  blk_simp [iblk]
  refine congrArg (V m c (Pipeline.arrRef spec0 0)) (funext fun a => Fin.ext ?_)
  blk_simp
  show 0 * _ + _ = _
  rw [Nat.zero_mul, Nat.zero_add]

/-- Window 1's staged block is the whole of the array it reads. -/
theorem X1_blk : X1 m c = V m c (Pipeline.arrRef spec0 1) := by
  funext j
  unfold X1
  blk_simp [iblk]
  refine congrArg (V m c (Pipeline.arrRef spec0 1)) (funext fun a => Fin.ext ?_)
  blk_simp
  show 0 * _ + _ = _
  rw [Nat.zero_mul, Nat.zero_add]

/-- Window 2's staged block is the whole of the array it reads. -/
theorem X2_blk : X2 m c = V m c (Pipeline.arrRef spec0 2) := by
  funext j
  unfold X2
  blk_simp [iblk]
  refine congrArg (V m c (Pipeline.arrRef spec0 2)) (funext fun a => Fin.ext ?_)
  blk_simp
  show 0 * _ + _ = _
  rw [Nat.zero_mul, Nat.zero_add]

/-- Window 3's staged block is the whole of the array it reads. -/
theorem X3_blk : X3 m c = V m c (Pipeline.arrRef spec0 3) := by
  funext j
  unfold X3
  blk_simp [iblk]
  refine congrArg (V m c (Pipeline.arrRef spec0 3)) (funext fun a => Fin.ext ?_)
  blk_simp
  show 0 * _ + _ = _
  rw [Nat.zero_mul, Nat.zero_add]

/-- Window 4's staged block is the whole of the array it reads. -/
theorem X4_blk : X4 m c = V m c (Pipeline.arrRef spec0 4) := by
  funext j
  unfold X4
  blk_simp [iblk]
  refine congrArg (V m c (Pipeline.arrRef spec0 4)) (funext fun a => Fin.ext ?_)
  blk_simp
  show 0 * _ + _ = _
  rw [Nat.zero_mul, Nat.zero_add]

/-- The staged rows are the first argument's block. -/
theorem X0_eq : X0 m c = m ((c : Thread nD τ).loc main_arg0) := (X0_blk m c).trans (V_main_arg0 m c)

/-- The staged query weights are the second argument. -/
theorem X1_eq : X1 m c = m ((c : Thread nD τ).loc main_arg1) := (X1_blk m c).trans (V_main_arg1 m c)

/-- The staged output weights are the last argument. -/
theorem X4_eq : X4 m c = m ((c : Thread nD τ).loc main_arg4) := (X4_blk m c).trans (V_main_arg4 m c)

/-- The keys and the values are staged with their heads side by side. -/
theorem V1_eq : V m c main_v1 = shapeCast S2x256x256 (m ((c : Thread nD τ).loc main_arg2)) shapeCasts_S2x256x4x64_S2x256x256 := by
  unfold V
  simp only [hostOps0]
  after_results
  rfl
/-- The same of the values. -/
theorem V2_eq : V m c main_v2 = shapeCast S2x256x256 (m ((c : Thread nD τ).loc main_arg3)) shapeCasts_S2x256x4x64_S2x256x256 := by
  unfold V
  simp only [hostOps0]
  after_results
  rfl

/-- The staged keys and values, at an element. -/
theorem X2_apply (b : Fin 2) (n l : Fin 256) : X2 m c (ix3 b n l)
    = (m ((c : Thread nD τ).loc main_arg2) : S2x256x4x64.Idx → F .bf16) (ix4 b n ⟨l.val / 64, by omega⟩ ⟨l.val % 64, by omega⟩) := by
  rw [X2_blk, show V m c (Pipeline.arrRef spec0 2) = _ from V1_eq m c]
  pointwise

/-- The staged values at an element. -/
theorem X3_apply (b : Fin 2) (n l : Fin 256) : X3 m c (ix3 b n l)
    = (m ((c : Thread nD τ).loc main_arg3) : S2x256x4x64.Idx → F .bf16) (ix4 b n ⟨l.val / 64, by omega⟩ ⟨l.val % 64, by omega⟩) := by
  rw [X3_blk, show V m c (Pipeline.arrRef spec0 3) = _ from V2_eq m c]
  pointwise

/-- Each load of a batch row of a staged block, at an element. -/
theorem v3_apply (z : Fin 1) (n : Fin 256) (l : Fin 256) : v3 m c (ix3 z n l) = X2 m c (ix3 0 n l) := by
  refine congrArg (X2 m c) (funext fun a => Fin.ext ?_)
  fin_cases a
  · show 0 + 1 * z.val = 0; omega
  · show 0 + 1 * n.val = n.val; omega
  · show 0 + 1 * l.val = l.val; omega

/-- This load, at an element: the batch row of the staged block it reads. -/
theorem v16_apply (z : Fin 1) (n : Fin 256) (l : Fin 256) : v16 m c (ix3 z n l) = X2 m c (ix3 1 n l) := by
  refine congrArg (X2 m c) (funext fun a => Fin.ext ?_)
  fin_cases a
  · show 1 + 1 * z.val = 1; omega
  · show 0 + 1 * n.val = n.val; omega
  · show 0 + 1 * l.val = l.val; omega

/-- This load, at an element: the batch row of the staged block it reads. -/
theorem v10_apply (z : Fin 1) (n : Fin 256) (l : Fin 256) : v10 m c (ix3 z n l) = X3 m c (ix3 0 n l) := by
  refine congrArg (X3 m c) (funext fun a => Fin.ext ?_)
  fin_cases a
  · show 0 + 1 * z.val = 0; omega
  · show 0 + 1 * n.val = n.val; omega
  · show 0 + 1 * l.val = l.val; omega

/-- This load, at an element: the batch row of the staged block it reads. -/
theorem v23_apply (z : Fin 1) (n : Fin 256) (l : Fin 256) : v23 m c (ix3 z n l) = X3 m c (ix3 1 n l) := by
  refine congrArg (X3 m c) (funext fun a => Fin.ext ?_)
  fin_cases a
  · show 1 + 1 * z.val = 1; omega
  · show 0 + 1 * n.val = n.val; omega
  · show 0 + 1 * l.val = l.val; omega

/-- This load, at an element: the batch row of the staged block it reads. -/
theorem v199_apply (z : Fin 1) (n : Fin 256) (l : Fin 256) : v199 m c (ix3 z n l) = X2 m c (ix3 0 n l) := by
  refine congrArg (X2 m c) (funext fun a => Fin.ext ?_)
  fin_cases a
  · show 0 + 1 * z.val = 0; omega
  · show 0 + 1 * n.val = n.val; omega
  · show 0 + 1 * l.val = l.val; omega

/-- This load, at an element: the batch row of the staged block it reads. -/
theorem v201_apply (z : Fin 1) (n : Fin 256) (l : Fin 256) : v201 m c (ix3 z n l) = X2 m c (ix3 1 n l) := by
  refine congrArg (X2 m c) (funext fun a => Fin.ext ?_)
  fin_cases a
  · show 1 + 1 * z.val = 1; omega
  · show 0 + 1 * n.val = n.val; omega
  · show 0 + 1 * l.val = l.val; omega

/-- This load, at an element: the batch row of the staged block it reads. -/
theorem v290_apply (z : Fin 1) (n : Fin 256) (l : Fin 256) : v290 m c (ix3 z n l) = X3 m c (ix3 0 n l) := by
  refine congrArg (X3 m c) (funext fun a => Fin.ext ?_)
  fin_cases a
  · show 0 + 1 * z.val = 0; omega
  · show 0 + 1 * n.val = n.val; omega
  · show 0 + 1 * l.val = l.val; omega

/-- This load, at an element: the batch row of the staged block it reads. -/
theorem v292_apply (z : Fin 1) (n : Fin 256) (l : Fin 256) : v292 m c (ix3 z n l) = X3 m c (ix3 1 n l) := by
  refine congrArg (X3 m c) (funext fun a => Fin.ext ?_)
  fin_cases a
  · show 1 + 1 * z.val = 1; omega
  · show 0 + 1 * n.val = n.val; omega
  · show 0 + 1 * l.val = l.val; omega

/-- This load, at an element: the batch row of the staged block it reads. -/
theorem v118_apply (z : Fin 1) (n : Fin 256) (l : Fin 512) : v118 m c (ix3 z n l) = X0 m c (ix3 0 n l) := by
  refine congrArg (X0 m c) (funext fun a => Fin.ext ?_)
  fin_cases a
  · show 0 + 1 * z.val = 0; omega
  · show 0 + 1 * n.val = n.val; omega
  · show 0 + 1 * l.val = l.val; omega

/-- This load, at an element: the batch row of the staged block it reads. -/
theorem v124_apply (z : Fin 1) (n : Fin 256) (l : Fin 512) : v124 m c (ix3 z n l) = X0 m c (ix3 1 n l) := by
  refine congrArg (X0 m c) (funext fun a => Fin.ext ?_)
  fin_cases a
  · show 1 + 1 * z.val = 1; omega
  · show 0 + 1 * n.val = n.val; omega
  · show 0 + 1 * l.val = l.val; omega

/-- The two weights are loaded whole. -/
theorem v114_eq : v114 m c = X1 m c := by
  funext i
  refine congrArg (X1 m c) (funext fun a => Fin.ext ?_)
  fin_cases a
  · show 0 + 1 * (i 0).val = (i 0).val; omega
  · show 0 + 1 * (i 1).val = (i 1).val; omega

/-- The loaded output weights are the staged ones. -/
theorem v116_eq : v116 m c = X4 m c := by
  funext i
  refine congrArg (X4 m c) (funext fun a => Fin.ext ?_)
  fin_cases a
  · show 0 + 1 * (i 0).val = (i 0).val; omega
  · show 0 + 1 * (i 1).val = (i 1).val; omega

end Any

section AtIdeal

variable (m : Mem Ideal) (c : Dev nD)

/-! ### A slot's keys and values are those of the device they came from -/

/-- This load, at an element: the batch row of the staged block it reads. -/
theorem v200_apply (n l : Fin 256) : v200 m c (ix2 n l) = X2 m c (ix3 0 n l) := by
  pointwise [v200, k0_pay30]
  exact v199_apply m c 0 n l

/-- This load, at an element: the batch row of the staged block it reads. -/
theorem v202_apply (n l : Fin 256) : v202 m c (ix2 n l) = X2 m c (ix3 1 n l) := by
  pointwise [v202, k0_pay31]
  exact v201_apply m c 0 n l

/-- This load, at an element: the batch row of the staged block it reads. -/
theorem val290_apply (n l : Fin 256) : k0_pay56 (v290 m c) (ix2 n l) = X3 m c (ix3 0 n l) := by
  pointwise [k0_pay56]
  exact v290_apply m c 0 n l

/-- This load, at an element: the batch row of the staged block it reads. -/
theorem val292_apply (n l : Fin 256) : k0_pay57 (v292 m c) (ix2 n l) = X3 m c (ix3 1 n l) := by
  pointwise [k0_pay57]
  exact v292_apply m c 0 n l

/-- This load, at an element: the batch row of the staged block it reads. -/
theorem v332_apply (n l : Fin 256) : v332 m c (ix2 n l) = X2 m (bwd 0 c) (ix3 0 n l) := by
  pointwise [v332, k0_pay66]
  unfold v330
  show Kown m (bwd 0 c) ((rowR (k0_off5 c 1#32) (k0_off5_inb c 0)).emb (inSlot (ix4 (bwd 0 c : Fin 4) 0 n l))) = _
  rw [row_emb (k0_off5 c 1#32) (off5_eq c 0) _ (ix4 (bwd 0 c : Fin 4) (0 : Fin 2) n l) rfl rfl]
  show k0_pay1 (v3 m (bwd 0 c)) (ix4 0 0 n l) = _
  pointwise [k0_pay1]
  exact v3_apply m (bwd 0 c) 0 n l

/-- This load, at an element: the batch row of the staged block it reads. -/
theorem v336_apply (n l : Fin 256) : v336 m c (ix2 n l) = X2 m (bwd 0 c) (ix3 1 n l) := by
  pointwise [v336, k0_pay67]
  unfold v334
  show Kown m (bwd 0 c) ((rowR (k0_off6 c 1#32) (k0_off6_inb c 0)).emb (inSlot (ix4 (bwd 0 c : Fin 4) 1 n l))) = _
  rw [row_emb (k0_off6 c 1#32) (off6_eq c 0) _ (ix4 (bwd 0 c : Fin 4) (1 : Fin 2) n l) rfl rfl]
  show k0_pay3 (v16 m (bwd 0 c)) (ix4 0 0 n l) = _
  pointwise [k0_pay3]
  exact v16_apply m (bwd 0 c) 0 n l

/-- This load, at an element: the batch row of the staged block it reads. -/
theorem v438_apply (n l : Fin 256) : v438 m c (ix2 n l) = X2 m (bwd 2 c) (ix3 0 n l) := by
  pointwise [v438, k0_pay96]
  unfold v436
  show Kown m (bwd 2 c) ((rowR (k0_off5 c 3#32) (k0_off5_inb c 2)).emb (inSlot (ix4 (bwd 2 c : Fin 4) 0 n l))) = _
  rw [row_emb (k0_off5 c 3#32) (off5_eq c 2) _ (ix4 (bwd 2 c : Fin 4) (0 : Fin 2) n l) rfl rfl]
  show k0_pay1 (v3 m (bwd 2 c)) (ix4 0 0 n l) = _
  pointwise [k0_pay1]
  exact v3_apply m (bwd 2 c) 0 n l

/-- This load, at an element: the batch row of the staged block it reads. -/
theorem v442_apply (n l : Fin 256) : v442 m c (ix2 n l) = X2 m (bwd 2 c) (ix3 1 n l) := by
  pointwise [v442, k0_pay97]
  unfold v440
  show Kown m (bwd 2 c) ((rowR (k0_off6 c 3#32) (k0_off6_inb c 2)).emb (inSlot (ix4 (bwd 2 c : Fin 4) 1 n l))) = _
  rw [row_emb (k0_off6 c 3#32) (off6_eq c 2) _ (ix4 (bwd 2 c : Fin 4) (1 : Fin 2) n l) rfl rfl]
  show k0_pay3 (v16 m (bwd 2 c)) (ix4 0 0 n l) = _
  pointwise [k0_pay3]
  exact v16_apply m (bwd 2 c) 0 n l

/-- This load, at an element: the batch row of the staged block it reads. -/
theorem v544_apply (n l : Fin 256) : v544 m c (ix2 n l) = X2 m (bwd 1 c) (ix3 0 n l) := by
  pointwise [v544, k0_pay123]
  unfold v542
  show Kown m (bwd 1 c) ((rowR (k0_off5 c 2#32) (k0_off5_inb c 1)).emb (inSlot (ix4 (bwd 1 c : Fin 4) 0 n l))) = _
  rw [row_emb (k0_off5 c 2#32) (off5_eq c 1) _ (ix4 (bwd 1 c : Fin 4) (0 : Fin 2) n l) rfl rfl]
  show k0_pay1 (v3 m (bwd 1 c)) (ix4 0 0 n l) = _
  pointwise [k0_pay1]
  exact v3_apply m (bwd 1 c) 0 n l

/-- This load, at an element: the batch row of the staged block it reads. -/
theorem v548_apply (n l : Fin 256) : v548 m c (ix2 n l) = X2 m (bwd 1 c) (ix3 1 n l) := by
  pointwise [v548, k0_pay124]
  unfold v546
  show Kown m (bwd 1 c) ((rowR (k0_off6 c 2#32) (k0_off6_inb c 1)).emb (inSlot (ix4 (bwd 1 c : Fin 4) 1 n l))) = _
  rw [row_emb (k0_off6 c 2#32) (off6_eq c 1) _ (ix4 (bwd 1 c : Fin 4) (1 : Fin 2) n l) rfl rfl]
  show k0_pay3 (v16 m (bwd 1 c)) (ix4 0 0 n l) = _
  pointwise [k0_pay3]
  exact v16_apply m (bwd 1 c) 0 n l

/-- This load, at an element: the batch row of the staged block it reads. -/
theorem v649_apply (n l : Fin 256) : v649 m c (ix2 n l) = X3 m (bwd 0 c) (ix3 0 n l) := by
  pointwise [v649, k0_pay150]
  unfold v648
  show Vown m (bwd 0 c) ((rowR (k0_off5 c 1#32) (k0_off5_inb c 0)).emb (inSlot (ix4 (bwd 0 c : Fin 4) 0 n l))) = _
  rw [row_emb (k0_off5 c 1#32) (off5_eq c 0) _ (ix4 (bwd 0 c : Fin 4) (0 : Fin 2) n l) rfl rfl]
  show k0_pay2 (v10 m (bwd 0 c)) (ix4 0 0 n l) = _
  pointwise [k0_pay2]
  exact v10_apply m (bwd 0 c) 0 n l

/-- This load, at an element: the batch row of the staged block it reads. -/
theorem v652_apply (n l : Fin 256) : v652 m c (ix2 n l) = X3 m (bwd 0 c) (ix3 1 n l) := by
  pointwise [v652, k0_pay151]
  unfold v651
  show Vown m (bwd 0 c) ((rowR (k0_off6 c 1#32) (k0_off6_inb c 0)).emb (inSlot (ix4 (bwd 0 c : Fin 4) 1 n l))) = _
  rw [row_emb (k0_off6 c 1#32) (off6_eq c 0) _ (ix4 (bwd 0 c : Fin 4) (1 : Fin 2) n l) rfl rfl]
  show k0_pay4 (v23 m (bwd 0 c)) (ix4 0 0 n l) = _
  pointwise [k0_pay4]
  exact v23_apply m (bwd 0 c) 0 n l

/-- This load, at an element: the batch row of the staged block it reads. -/
theorem v690_apply (n l : Fin 256) : v690 m c (ix2 n l) = X3 m (bwd 2 c) (ix3 0 n l) := by
  pointwise [v690, k0_pay160]
  unfold v689
  show Vown m (bwd 2 c) ((rowR (k0_off5 c 3#32) (k0_off5_inb c 2)).emb (inSlot (ix4 (bwd 2 c : Fin 4) 0 n l))) = _
  rw [row_emb (k0_off5 c 3#32) (off5_eq c 2) _ (ix4 (bwd 2 c : Fin 4) (0 : Fin 2) n l) rfl rfl]
  show k0_pay2 (v10 m (bwd 2 c)) (ix4 0 0 n l) = _
  pointwise [k0_pay2]
  exact v10_apply m (bwd 2 c) 0 n l

/-- This load, at an element: the batch row of the staged block it reads. -/
theorem v693_apply (n l : Fin 256) : v693 m c (ix2 n l) = X3 m (bwd 2 c) (ix3 1 n l) := by
  pointwise [v693, k0_pay161]
  unfold v692
  show Vown m (bwd 2 c) ((rowR (k0_off6 c 3#32) (k0_off6_inb c 2)).emb (inSlot (ix4 (bwd 2 c : Fin 4) 1 n l))) = _
  rw [row_emb (k0_off6 c 3#32) (off6_eq c 2) _ (ix4 (bwd 2 c : Fin 4) (1 : Fin 2) n l) rfl rfl]
  show k0_pay4 (v23 m (bwd 2 c)) (ix4 0 0 n l) = _
  pointwise [k0_pay4]
  exact v23_apply m (bwd 2 c) 0 n l

/-- This load, at an element: the batch row of the staged block it reads. -/
theorem v731_apply (n l : Fin 256) : v731 m c (ix2 n l) = X3 m (bwd 1 c) (ix3 0 n l) := by
  pointwise [v731, k0_pay171]
  unfold v730
  show Vown m (bwd 1 c) ((rowR (k0_off5 c 2#32) (k0_off5_inb c 1)).emb (inSlot (ix4 (bwd 1 c : Fin 4) 0 n l))) = _
  rw [row_emb (k0_off5 c 2#32) (off5_eq c 1) _ (ix4 (bwd 1 c : Fin 4) (0 : Fin 2) n l) rfl rfl]
  show k0_pay2 (v10 m (bwd 1 c)) (ix4 0 0 n l) = _
  pointwise [k0_pay2]
  exact v10_apply m (bwd 1 c) 0 n l

/-- This load, at an element: the batch row of the staged block it reads. -/
theorem val733_apply (n l : Fin 256) : k0_pay172 (v733 m c) (ix2 n l) = X3 m (bwd 1 c) (ix3 1 n l) := by
  pointwise [k0_pay172]
  unfold v733
  show Vown m (bwd 1 c) ((rowR (k0_off6 c 2#32) (k0_off6_inb c 1)).emb (inSlot (ix4 (bwd 1 c : Fin 4) 1 n l))) = _
  rw [row_emb (k0_off6 c 2#32) (off6_eq c 1) _ (ix4 (bwd 1 c : Fin 4) (1 : Fin 2) n l) rfl rfl]
  show k0_pay4 (v23 m (bwd 1 c)) (ix4 0 0 n l) = _
  pointwise [k0_pay4]
  exact v23_apply m (bwd 1 c) 0 n l

/-- The devices whose keys and values device `c` meets, in the order it meets them. -/
def ord (c : Dev nD) : Fin 4 → Dev nD := ![c, bwd 0 c, bwd 2 c, bwd 1 c]

/-- The slots' keys of batch row 0, at an element. -/
theorem ks0_apply (s : Fin 4) (n l : Fin 256) : ks0 m c s (ix2 n l) = X2 m (ord c s) (ix3 0 n l) := by
  fin_cases s
  exacts [v200_apply m c n l, v332_apply m c n l, v438_apply m c n l, v544_apply m c n l]
/-- The slots' keys of batch row 1, at an element. -/
theorem ks1_apply (s : Fin 4) (n l : Fin 256) : ks1 m c s (ix2 n l) = X2 m (ord c s) (ix3 1 n l) := by
  fin_cases s
  exacts [v202_apply m c n l, v336_apply m c n l, v442_apply m c n l, v548_apply m c n l]
/-- The slots' values of batch row 0, at an element. -/
theorem vs0_apply (s : Fin 4) (n l : Fin 256) : vs0 m c s (ix2 n l) = X3 m (ord c s) (ix3 0 n l) := by
  fin_cases s
  exacts [val290_apply m c n l, v649_apply m c n l, v690_apply m c n l, v731_apply m c n l]
/-- The slots' values of batch row 1, at an element. -/
theorem vs1_apply (s : Fin 4) (n l : Fin 256) : vs1 m c s (ix2 n l) = X3 m (ord c s) (ix3 1 n l) := by
  fin_cases s
  exacts [val292_apply m c n l, v652_apply m c n l, v693_apply m c n l, val733_apply m c n l]

end AtIdeal

end Cert.KProof

end
-- ==== Proof.Masks.lean ====
module

public import proofs.«01_k».proof.Proof.Blocks

@[expose] public section

set_option maxRecDepth 16384

noncomputable section

namespace Cert.KProof

open Cert.KernelIdeal Cert.KernelIdeal.Gen
open Idealize.ShloMosaic Idealize.ShloMosaic.TcCoe

/-! ## The mask, by blocks of 64 rows -/

/-- Whether the queries of block `a` attend to the keys of block `b`. -/
def allow (a b : ℕ) : Bool := decide (a = b) || decide (b = 0) || decide ((a + b) % 3 = 0)

/-- The mask's bit as the kernel computes it from the two block numbers. -/
def allowW (a b : BitVec 32) : BitVec 1 :=
  IntOp.ori (IntOp.ori (IntOp.cmpi .eq a b) (IntOp.cmpi .eq b 0#32))
    (IntOp.cmpi .eq (IntOp.remsi .vector (IntOp.addi a b) 3#32) 0#32)

/-- The bit is that of the block numbers. -/
theorem allowW_eq : ∀ a b : Fin 16, BitVec.setWidth 32 (allowW (BitVec.ofNat 32 a.val) (BitVec.ofNat 32 b.val))
    = if allow a.val b.val = true then 1#32 else 0#32 := by decide +kernel

/-- A mask word as a real. -/
theorem mask_real (b : Bool) : (FloatOps.sitofp (F := Ideal) .f32 (if b = true then 1#32 else 0#32) : EReal) = if b = true then 1 else 0 := by
  cases b
  · show (((0#32 : BitVec 32).toInt : ℝ) : EReal) = 0
    simp
  · show (((1#32 : BitVec 32).toInt : ℝ) : EReal) = 1
    simp

section

variable (m : Mem Ideal) (c : Dev nD)

/-- The query's block number, over all devices. -/
theorem v157_apply (r n : Fin 256) : v157 m c (ix2 r n) = BitVec.ofNat 32 (4 * c.val + r.val / 64) := by
  pointwise [v157, k0_pay12,v130,v133,v147,v149,k0_pay9,k0_pay10,k0_pay11]
  revert r c
  decide +kernel

/-- The key's block number in its slot. -/
theorem v182_apply (r n : Fin 256) : v182 m c (ix2 r n) = BitVec.ofNat 32 (n.val / 64) := by
  pointwise [v182, k0_pay13]
  revert n
  decide +kernel

/-- The key's block number, over all devices. -/
theorem key_word : ∀ (d : Fin 4) (n : Fin 256), IntOp.addi (BitVec.ofNat 32 (n.val / 64)) (BitVec.ofNat 32 (4 * d.val)) = BitVec.ofNat 32 (4 * d.val + n.val / 64) := by
  decide +kernel

/-- The first block number of each slot's keys, as the kernel computes it. -/
theorem word_own : ∀ c : Dev nD, Scalar.muli (v2 c) 4#32 = BitVec.ofNat 32 (4 * c.val) := by decide +kernel
/-- The same of the slot after it. -/
theorem word_b0 : ∀ c : Dev nD, Scalar.muli (Scalar.remsi (Scalar.addi (Scalar.subi (v2 c) 1#32) 4#32) 4#32) 4#32 = BitVec.ofNat 32 (4 * (bwd 0 c).val) := by decide +kernel
/-- The same of the slot after it. -/
theorem word_b2 : ∀ c : Dev nD, Scalar.muli (Scalar.remsi (Scalar.addi (Scalar.subi (v2 c) 3#32) 4#32) 4#32) 4#32 = BitVec.ofNat 32 (4 * (bwd 2 c).val) := by decide +kernel
/-- The same of the last slot. -/
theorem word_b1 : ∀ c : Dev nD, Scalar.muli (Scalar.remsi (Scalar.addi (Scalar.subi (v2 c) 2#32) 4#32) 4#32) 4#32 = BitVec.ofNat 32 (4 * (bwd 1 c).val) := by decide +kernel

/-- The mask a slot's payload computes from its two block numbers. -/
theorem mask_of (a b : ℕ) (ha : a < 16) (hb : b < 16) : (FloatOps.sitofp (F := Ideal) .f32
    (BitVec.setWidth 32 (allowW (BitVec.ofNat 32 a) (BitVec.ofNat 32 b))) : EReal) = if allow a b = true then 1 else 0 := by
  rw [allowW_eq ⟨a, ha⟩ ⟨b, hb⟩, mask_real]

/-- A slot's mask at an element: one where the query's block attends to the key's, zero elsewhere. -/
theorem mks_apply (s : Fin 4) (r n : Fin 256) : mks m c s (ix2 r n)
    = if allow (4 * c.val + r.val / 64) (4 * (ord c s).val + n.val / 64) = true then (1 : EReal) else 0 := by
  have hc : c.val < 4 := c.isLt
  have hs : (ord c s).val < 4 := (ord c s).isLt
  rw [← mask_of _ _ (by omega) (by omega), ← key_word (ord c s) n]
  fin_cases s
  · show v217 m c (ix2 r n) = _
    pointwise [v217, k0_pay32]
    rw [v157_apply, v182_apply, word_own]
    rfl
  · show v351 m c (ix2 r n) = _
    pointwise [v351, k0_pay68, v320, v319, v318]
    rw [v157_apply, v182_apply, word_b0]
    rfl
  · show v457 m c (ix2 r n) = _
    pointwise [v457, k0_pay98, v443, v426, v425, v424]
    rw [v157_apply, v182_apply, word_b2]
    rfl
  · show v563 m c (ix2 r n) = _
    pointwise [v563, k0_pay125, v532, v531, v530]
    rw [v157_apply, v182_apply, word_b1]
    rfl

end

end Cert.KProof

end
-- ==== Proof.RefStages.lean ====
/-
# The reference's stages, by name, and each at an element
-/
module

public import proofs.«01_k».proof.Proof.Masks
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.RProof

open Cert.ReferenceIdeal Cert.ReferenceIdeal.Gen Cert.ReferenceIdeal.Facts
open Idealize.ShloMosaic Idealize.ShloMosaic.TcCoe

/-- Every position's block number: the position divided by 64, rounded down. -/
def refQb : IVec S1024 32 :=
  (select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32)))))

/-- The block number of the query, over the matrix of scores. -/
def refRow : IVec S1024x1024 32 :=
  broadcastInDim S1024x1024 ![0, 1] bcast_S1024x1_S1024x1024_0_1 (broadcastInDim S1024x1 ![0] bcast_S1024_S1024x1_0 refQb)

/-- The block number of the key, over the matrix of scores. -/
def refCol : IVec S1024x1024 32 :=
  broadcastInDim S1024x1024 ![0, 1] bcast_S1x1024_S1024x1024_0_1 (broadcastInDim S1x1024 ![1] bcast_S1024_S1x1024_1 refQb)

/-- The remainder by three of the sum of both, before its sign is put right. -/
def refRem : IVec S1024x1024 32 :=
  (Host.remsi (addi refRow refCol) (broadcastInDim S1024x1024 ![] bcast_S_S1024x1024 (select (cmpi .eq (id (constantI S_ 32 3#32)) (constantI S_ 32 0#32)) (constantI S_ 32 1#32) (id (constantI S_ 32 3#32)))))

/-- The block-sparse mask. -/
def refMask : IVec S1024x1024 1 :=
  (ori (ori (cmpi .eq refRow refCol) (broadcastInDim S1024x1024 ![0, 1] bcast_S1x1024_S1024x1024_0_1 (cmpi .eq (broadcastInDim S1x1024 ![1] bcast_S1024_S1x1024_1 refQb) (broadcastInDim S1x1024 ![] bcast_S_S1x1024 (constantI S_ 32 0#32))))) (cmpi .eq (select (andi (cmpi .ne (cmpi .slt refRem (broadcastInDim S1024x1024 ![] bcast_S_S1024x1024 (constantI S_ 32 0#32))) (broadcastInDim S1024x1024 ![] bcast_S_S1024x1024 (cmpi .slt (select (cmpi .eq (id (constantI S_ 32 3#32)) (constantI S_ 32 0#32)) (constantI S_ 32 1#32) (id (constantI S_ 32 3#32))) (constantI S_ 32 0#32)))) (cmpi .ne refRem (broadcastInDim S1024x1024 ![] bcast_S_S1024x1024 (constantI S_ 32 0#32)))) (addi refRem (broadcastInDim S1024x1024 ![] bcast_S_S1024x1024 (select (cmpi .eq (id (constantI S_ 32 3#32)) (constantI S_ 32 0#32)) (constantI S_ 32 1#32) (id (constantI S_ 32 3#32))))) refRem) (broadcastInDim S1024x1024 ![] bcast_S_S1024x1024 (constantI S_ 32 0#32))))

/-- Whether a query attends to any key. -/
def refKeep : IVec S1024 1 :=
  (Host.reduce IntOp.ori refMask (constantI S_ 1 0#1) reducesTo_S1024x1024_S1024_d1 h_S_)

/-- The scaled scores, masked ones at minus infinity. -/
def refScores (x : FVec Ideal S2x1024x512 .bf16) (wq : FVec Ideal S512x256 .bf16) (k : FVec Ideal S2x1024x4x64 .bf16) : FVec Ideal S2x4x1024x1024 .f32 :=
  (select (broadcastInDim S2x4x1024x1024 ![0, 1, 2, 3] bcast_S1x1x1024x1024_S2x4x1024x1024_0_1_2_3 (broadcastInDim S1x1x1024x1024 ![2, 3] bcast_S1024x1024_S1x1x1024x1024_2_3 refMask)) (mulf (Host.dotGeneral dot_S2x1024x4x64_S2x1024x4x64_S2x4x1024x1024_3_3_1_1_02_02 none (shapeCast _ (Host.dotGeneral dot_S2x1024x512_S512x256_S2x1024x256_2_0_01_1_n_n none (extf .f32 x bitsLt_bf16_f32) (extf .f32 wq bitsLt_bf16_f32)) shapeCasts_S2x1024x256_S2x1024x4x64) (extf .f32 k bitsLt_bf16_f32)) (broadcastInDim S2x4x1024x1024 ![] bcast_S_S2x4x1024x1024 (constant S_ .f32 0x3E000000#32))) (broadcastInDim S2x4x1024x1024 ![] bcast_S_S2x4x1024x1024 (id (constant S_ .f32 0xFF800000#32))))

/-- Each row's greatest score. -/
def refMax (s : FVec Ideal S2x4x1024x1024 .f32) : FVec Ideal S2x4x1024 .f32 :=
  (Host.reduce FloatOps.maximumf s (constant S_ .f32 0xFF800000#32) reducesTo_S2x4x1024x1024_S2x4x1024_d3 h_S_)

/-- The exponentials of the scores less the row's greatest. -/
def refExp (s : FVec Ideal S2x4x1024x1024 .f32) : FVec Ideal S2x4x1024x1024 .f32 :=
  (Host.exp (subf s (broadcastInDim S2x4x1024x1024 ![0, 1, 2, 3] bcast_S2x4x1024x1_S2x4x1024x1024_0_1_2_3 (broadcastInDim S2x4x1024x1 ![0, 1, 2] bcast_S2x4x1024_S2x4x1024x1_0_1_2 (refMax s)))))

/-- Each row's sum. -/
def refSum (w : FVec Ideal S2x4x1024x1024 .f32) : FVec Ideal S2x4x1024 .f32 :=
  (Host.reduceAdd w (constant S_ .f32 0x00000000#32) reducesTo_S2x4x1024x1024_S2x4x1024_d3 h_S_)

/-- The weights: the exponentials divided by their row's sum. -/
def refW (w : FVec Ideal S2x4x1024x1024 .f32) : FVec Ideal S2x4x1024x1024 .f32 :=
  (select (broadcastInDim S2x4x1024x1024 ![0, 1, 2, 3] bcast_S1x1x1024x1_S2x4x1024x1024_0_1_2_3 (broadcastInDim S1x1x1024x1 ![2] bcast_S1024_S1x1x1024x1_2 refKeep)) (Host.divf w (broadcastInDim S2x4x1024x1024 ![0, 1, 2, 3] bcast_S2x4x1024x1_S2x4x1024x1024_0_1_2_3 (select (broadcastInDim S2x4x1024x1 ![0, 1, 2, 3] bcast_S1x1x1024x1_S2x4x1024x1_0_1_2_3 (broadcastInDim S1x1x1024x1 ![2] bcast_S1024_S1x1x1024x1_2 refKeep)) (broadcastInDim S2x4x1024x1 ![0, 1, 2] bcast_S2x4x1024_S2x4x1024x1_0_1_2 (refSum w)) (broadcastInDim S2x4x1024x1 ![] bcast_S_S2x4x1024x1 (id (constant S_ .f32 0x3F800000#32)))))) (broadcastInDim S2x4x1024x1024 ![] bcast_S_S2x4x1024x1024 (id (constant S_ .f32 0x00000000#32))))

/-- The weighted average of the values and the output projection. -/
def refOut (w : FVec Ideal S2x4x1024x1024 .f32) (v : FVec Ideal S2x1024x4x64 .bf16) (wo : FVec Ideal S256x512 .bf16) : FVec Ideal S2x1024x512 .f32 :=
  Host.dotGeneral dot_S2x1024x256_S256x512_S2x1024x512_2_0_01_1_n_n none (shapeCast _ (transpose S2x1024x4x64 [0, 3, 1, 2] (Host.dotGeneral dot_S2x1024x4x64_S2x4x1024x1024_S2x4x64x1024_1_3_3_2_02_01 none (extf .f32 v bitsLt_bf16_f32) w) transposes_S2x4x64x1024_S2x1024x4x64_0_3_1_2) shapeCasts_S2x1024x4x64_S2x1024x256) (extf .f32 wo bitsLt_bf16_f32)

/-- The reference's result, stage by stage. -/
theorem res_stages (m : (ℓ : Loc nD τ sig) → Buf (Elt Ideal) ℓ) (c : Dev nD) :
    Cert.ReferenceIdeal.Value.res_main_v49 m c = refOut (refW (refExp (refScores (m ((c.tc : Thread nD τ).loc main_arg0)) (m ((c.tc : Thread nD τ).loc main_arg1)) (m ((c.tc : Thread nD τ).loc main_arg2))))) (m ((c.tc : Thread nD τ).loc main_arg3)) (m ((c.tc : Thread nD τ).loc main_arg4)) := rfl

end Cert.RProof

end
-- ==== Proof.RefAt.lean ====
/-
# The reference at an element
-/
module

public import proofs.«01_k».proof.Proof.RefStages

@[expose] public section

set_option maxRecDepth 16384

noncomputable section

namespace Cert.RProof

open Cert.ReferenceIdeal Cert.ReferenceIdeal.Gen Cert.ReferenceIdeal.Facts
open Idealize.ShloMosaic Idealize.ShloMosaic.TcCoe
open Cert.KProof (allow)

/-- A position's block number. -/
theorem refQb_apply (i : Fin 1024) : refQb (ix1 i) = BitVec.ofNat 32 (i.val / 64) := by
  pointwise [refQb]
  revert i
  decide +kernel

/-- The mask as the reference computes it, of two block numbers. -/
def maskW (a b : BitVec 32) : BitVec 1 :=
  IntOp.ori (IntOp.ori (IntOp.cmpi .eq a b) (IntOp.cmpi .eq b 0#32))
    (IntOp.cmpi .eq
      (Scalar.select
        (IntOp.andi
          (IntOp.cmpi .ne
            (IntOp.cmpi .slt (IntOp.remsi .host (IntOp.addi a b) (Scalar.select (IntOp.cmpi .eq 3#32 0#32) (1#32) (3#32))) 0#32)
            (IntOp.cmpi .slt (Scalar.select (IntOp.cmpi .eq 3#32 0#32) (1#32) (3#32)) 0#32))
          (IntOp.cmpi .ne (IntOp.remsi .host (IntOp.addi a b) (Scalar.select (IntOp.cmpi .eq 3#32 0#32) (1#32) (3#32))) 0#32))
        (IntOp.addi (IntOp.remsi .host (IntOp.addi a b) (Scalar.select (IntOp.cmpi .eq 3#32 0#32) (1#32) (3#32)))
          (Scalar.select (IntOp.cmpi .eq 3#32 0#32) (1#32) (3#32)))
        (IntOp.remsi .host (IntOp.addi a b) (Scalar.select (IntOp.cmpi .eq 3#32 0#32) (1#32) (3#32))))
      0#32)

/-- It is the bit of the block numbers that the kernel's mask is. -/
theorem maskW_eq (a b : Fin 16) : maskW (BitVec.ofNat 32 a.val) (BitVec.ofNat 32 b.val) = if allow a.val b.val = true then 1#1 else 0#1 := by
  revert a b
  decide +kernel

/-- The mask at an element. -/
theorem refMask_apply (i j : Fin 1024) : refMask (ix2 i j) = if allow (i.val / 64) (j.val / 64) = true then 1#1 else 0#1 := by
  have h : refMask (ix2 i j) = maskW (BitVec.ofNat 32 (i.val / 64)) (BitVec.ofNat 32 (j.val / 64)) := by
    pointwise [refMask, refRem, refRow, refCol, refQb_apply]
    rfl
  rw [h]
  exact maskW_eq ⟨i.val / 64, by omega⟩ ⟨j.val / 64, by omega⟩

/-- The literal of the masked scores is minus infinity. -/
theorem low_eq : Ideal.ofBits FTy.f32 0xFF800000#32 = ⊥ := by
  simp [Ideal.ofBits, Ideal.ieee]

/-- A score at an element: the query's projection times the key, scaled, where the query attends to the key; minus infinity elsewhere. -/
theorem refScores_apply (x : FVec Ideal S2x1024x512 .bf16) (wq : FVec Ideal S512x256 .bf16) (k : FVec Ideal S2x1024x4x64 .bf16) (b : Fin 2) (h : Fin 4) (i j : Fin 1024) :
    refScores x wq k (ix4 b h i j) =
      if allow (i.val / 64) (j.val / 64) = true then
        (∑ d : Fin 64, (∑ e : Fin 512, x (ix3 b i e) * wq (ix2 e ⟨h.val * 64 + d.val, by omega⟩)) * k (ix4 b j h d)) * Ideal.ofBits FTy.f32 0x3E000000#32
      else (⊥ : EReal) := by
  pointwise [refScores]
  rw [refMask_apply]
  split
  · rfl
  · exact low_eq

/-- A row's greatest score. -/
theorem refMax_apply (s : FVec Ideal S2x4x1024x1024 .f32) (b : Fin 2) (h : Fin 4) (i : Fin 1024) :
    refMax s (ix3 b h i) = Finset.univ.fold max (⊥ : EReal) fun j : Fin 1024 => s (ix4 b h i j) := by
  pointwise [refMax]
  rw [low_eq]

/-- A row's sum. -/
theorem refSum_apply (s : FVec Ideal S2x4x1024x1024 .f32) (b : Fin 2) (h : Fin 4) (i : Fin 1024) :
    refSum s (ix3 b h i) = ∑ j : Fin 1024, s (ix4 b h i j) := by
  pointwise [refSum]

/-- An exponential at an element. -/
theorem refExp_apply (s : FVec Ideal S2x4x1024x1024 .f32) (b : Fin 2) (h : Fin 4) (i j : Fin 1024) :
    refExp s (ix4 b h i j) = Ideal.exp (s (ix4 b h i j) - refMax s (ix3 b h i)) := by
  pointwise [refExp]

/-- Every query attends to the first block of keys. -/
theorem refKeep_apply (i : Fin 1024) : refKeep (ix1 i) = 1#1 := by
  pointwise [refKeep]
  rw [← Finset.insert_erase (Finset.mem_univ (0 : Fin 1024)), Finset.fold_insert (Finset.notMem_erase _ _), refMask_apply]
  generalize Finset.fold IntOp.ori (0#1) (fun x => refMask (ix2 i x)) (Finset.univ.erase 0) = y
  rw [if_pos (by simp [allow])]
  revert y
  decide

/-- A weight at an element. -/
theorem refW_apply (w : FVec Ideal S2x4x1024x1024 .f32) (b : Fin 2) (h : Fin 4) (i j : Fin 1024) :
    refW w (ix4 b h i j) = Ideal.div (w (ix4 b h i j)) (refSum w (ix3 b h i)) := by
  pointwise [refW, refKeep_apply]

/-- The result at an element, of the weights. -/
theorem refOut_apply (w : FVec Ideal S2x4x1024x1024 .f32) (v : FVec Ideal S2x1024x4x64 .bf16) (wo : FVec Ideal S256x512 .bf16) (b : Fin 2) (i : Fin 1024) (l : Fin 512) :
    refOut w v wo (ix3 b i l) =
      ∑ y : Fin 256, (∑ j : Fin 1024, v (ix4 b j ⟨y.val / 64, by omega⟩ ⟨y.val % 64, by omega⟩) * w (ix4 b ⟨y.val / 64, by omega⟩ i j)) * wo (ix2 y l) := by
  pointwise [refOut]

/-- The result at an element, of the scores. -/
theorem ref_apply (s : FVec Ideal S2x4x1024x1024 .f32) (v : FVec Ideal S2x1024x4x64 .bf16) (wo : FVec Ideal S256x512 .bf16) (b : Fin 2) (i : Fin 1024) (l : Fin 512) :
    refOut (refW (refExp s)) v wo (ix3 b i l) =
      ∑ y : Fin 256, (∑ j : Fin 1024, v (ix4 b j ⟨y.val / 64, by omega⟩ ⟨y.val % 64, by omega⟩) *
        Ideal.div (Ideal.exp (s (ix4 b ⟨y.val / 64, by omega⟩ i j) - Finset.univ.fold max (⊥ : EReal) fun n : Fin 1024 => s (ix4 b ⟨y.val / 64, by omega⟩ i n)))
          (∑ j : Fin 1024, Ideal.exp (s (ix4 b ⟨y.val / 64, by omega⟩ i j) - Finset.univ.fold max (⊥ : EReal) fun n : Fin 1024 => s (ix4 b ⟨y.val / 64, by omega⟩ i n)))) * wo (ix2 y l) := by
  rw [refOut_apply]
  simp only [refW_apply, refSum_apply, refExp_apply, refMax_apply]

end Cert.RProof

end
-- ==== Proof.HeadsAt.lean ====
module

public import proofs.«01_k».proof.Proof.Heads
public import Idealize.ShloMosaic.Lib.Pointwise

@[expose] public section

set_option maxRecDepth 16384

noncomputable section

namespace Cert.KProof

open Cert.KernelIdeal Cert.KernelIdeal.Gen
open Idealize.ShloMosaic Idealize.ShloMosaic.TcCoe

/-- A masked exponential at an element. -/
theorem expH_apply (o : ℕ) (h : S256x256.Slices ![0, o] S256x64) (ho : o + 64 ≤ 256) (q k : FVec Ideal S256x256 .bf16)
    (mk : FVec Ideal S256x256 .f32) (r n : Fin 256) :
    expH o h q k mk (ix2 r n)
      = Ideal.exp (∑ d : Fin 64, q (ix2 r ⟨o + d.val, by omega⟩) * k (ix2 n ⟨o + d.val, by omega⟩)) * mk (ix2 r n) := by
  pointwise [expH]

/-- A row's sum of exponentials at an element. -/
theorem addRow_apply (s : FVec Ideal S256x1 .f32) (e : FVec Ideal S256x256 .f32) (r : Fin 256) (z : Fin 1) :
    addRow s e (ix2 r z) = s (ix2 r z) + ∑ n : Fin 256, e (ix2 r n) := by
  pointwise [addRow]

/-- A context's sum at an element. -/
theorem addCtx_apply (o : ℕ) (h : S256x256.Slices ![0, o] S256x64) (ho : o + 64 ≤ 256) (a : FVec Ideal S256x64 .f32)
    (e : FVec Ideal S256x256 .f32) (v : FVec Ideal S256x256 .bf16) (r : Fin 256) (d : Fin 64) :
    addCtx o h a e v (ix2 r d)
      = a (ix2 r d) + ∑ n : Fin 256, e (ix2 r n) * v (ix2 n ⟨o + d.val, by omega⟩) := by
  pointwise [addCtx]

/-- The masked exponential that head column `x` sees of slot `s`'s key `n`. -/
def expAt (q : FVec Ideal S256x256 .bf16) (k : Fin 4 → FVec Ideal S256x256 .bf16) (mk : Fin 4 → FVec Ideal S256x256 .f32)
    (r x : Fin 256) (s : Fin 4) (n : Fin 256) : EReal :=
  Ideal.exp (∑ d : Fin 64, q (ix2 r ⟨64 * (x.val / 64) + d.val, by omega⟩)
    * k s (ix2 n ⟨64 * (x.val / 64) + d.val, by omega⟩)) * mk s (ix2 r n)

/-- The normalised context at row `r` and head column `x`. -/
def headAt (q : FVec Ideal S256x256 .bf16) (k v : Fin 4 → FVec Ideal S256x256 .bf16)
    (mk : Fin 4 → FVec Ideal S256x256 .f32) (r x : Fin 256) : EReal :=
  Ideal.div (∑ s : Fin 4, ∑ n : Fin 256, expAt q k mk r x s n * v s (ix2 n x))
    (∑ s : Fin 4, ∑ n : Fin 256, expAt q k mk r x s n)

/-- A head's context at an element is that of the column it stands at among all the heads' columns. -/
theorem headH_apply (o : ℕ) (h : S256x256.Slices ![0, o] S256x64) (q : FVec Ideal S256x256 .bf16)
    (k v : Fin 4 → FVec Ideal S256x256 .bf16) (mk : Fin 4 → FVec Ideal S256x256 .f32) (r : Fin 256) (l : Fin 64)
    (x : Fin 256) (ho : 64 * (x.val / 64) = o) (hx : x.val = o + l.val) :
    headH o h q k v mk (ix2 r l) = headAt q k v mk r x := by
  subst ho
  have ho : 64 * (x.val / 64) + 64 ≤ 256 := by omega
  have hx' : (⟨64 * (x.val / 64) + l.val, by omega⟩ : Fin 256) = x := Fin.ext hx.symm
  pointwise [headH]
  simp only [addCtx_apply _ h ho, addRow_apply, expH_apply _ h ho, hx', headAt, expAt, Fin.sum_univ_four]
  rw [show broadcast S256x64 (0 : EReal) (ix2 r l) = 0 from rfl, show broadcast S256x1 (0 : EReal) (ix2 r 0) = 0 from rfl,
    zero_add, zero_add]

/-- A batch row's result at an element: the contexts of the row times the output weights' column. -/
theorem rowH_apply (q : FVec Ideal S256x256 .bf16) (k v : Fin 4 → FVec Ideal S256x256 .bf16)
    (mk : Fin 4 → FVec Ideal S256x256 .f32) (wo : FVec Ideal S256x512 .bf16) (z : Fin 1) (r : Fin 256) (l : Fin 512) :
    rowH q k v mk wo (ix3 z r l) = ∑ x : Fin 256, headAt q k v mk r x * wo (ix2 x l) := by
  pointwise [rowH]
  refine Finset.sum_congr rfl fun x _ => congrArg (· * _) ?_
  by_cases h0 : x.val < 64
  · rw [dif_pos h0]; exact headH_apply _ _ _ _ _ _ _ _ _ (by omega) (by show _ = 0 + x.val; omega)
  rw [dif_neg h0]
  by_cases h1 : x.val - 64 < 64
  · rw [dif_pos h1]; exact headH_apply _ _ _ _ _ _ _ _ _ (by omega) (by show _ = 64 + (x.val - 64); omega)
  rw [dif_neg h1]
  by_cases h2 : x.val - 64 - 64 < 64
  · rw [dif_pos h2]; exact headH_apply _ _ _ _ _ _ _ _ _ (by omega) (by show _ = 128 + (x.val - 64 - 64); omega)
  rw [dif_neg h2]
  exact headH_apply _ _ _ _ _ _ _ _ _ (by omega) (by show _ = 192 + (x.val - 64 - 64 - 64); omega)

/-- The scaled queries of batch row 0. -/
theorem pay7_apply (w : Vec Ideal S512x256 .bf16) (x : Vec Ideal S1x256x512 .bf16) (r l : Fin 256) :
    k0_pay7 (F := Ideal) w x (ix2 r l)
      = (∑ j : Fin 512, x (ix3 0 r j) * w (ix2 j l)) * Ideal.ofBits .f32 0x3E000000#32 := by
  pointwise [k0_pay7, k0_pay5]

/-- The scaled queries of batch row 1. -/
theorem pay8_apply (w : Vec Ideal S512x256 .bf16) (x : Vec Ideal S1x256x512 .bf16) (r l : Fin 256) :
    k0_pay8 (F := Ideal) w x (ix2 r l)
      = (∑ j : Fin 512, x (ix3 0 r j) * w (ix2 j l)) * Ideal.ofBits .f32 0x3E000000#32 := by
  pointwise [k0_pay8, k0_pay5]

end Cert.KProof

end
-- ==== Proof.Softmax.lean ====
module

public import Idealize.ShloMosaic.Lib.Pointwise

@[expose] public section

noncomputable section

namespace Cert.KProof

open Idealize.ShloMosaic

/-! ## The softmax over the extended reals

The scores are finite, the values are any. -/

/-- A finite sum of reals, in the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative distributes over a finite sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The largest of the scores a mask admits, one of them at least, is a real. -/
theorem max_real {ι : Type} [Fintype ι] (x : ι → ℝ) (p : ι → Bool) (hp : ∃ i, p i = true) :
    ∃ M : ℝ, (Finset.univ.fold max (⊥ : EReal) fun i => if p i = true then (x i : EReal) else ⊥) = (M : EReal) := by
  classical
  have key : ∀ s : Finset ι, (s.fold max (⊥ : EReal) fun i => if p i = true then (x i : EReal) else ⊥) ≠ ⊤
      ∧ ∀ i ∈ s, p i = true → (x i : EReal) ≤ s.fold max (⊥ : EReal) fun i => if p i = true then (x i : EReal) else ⊥ := by
    intro s
    induction s using Finset.induction_on with
    | empty => simp
    | insert a s ha ih =>
      rw [Finset.fold_insert ha]
      refine ⟨?_, fun i hi hpi => ?_⟩
      · rcases le_total (if p a = true then (x a : EReal) else ⊥)
          (s.fold max (⊥ : EReal) fun i => if p i = true then (x i : EReal) else ⊥) with h | h
        · rw [max_eq_right h]; exact ih.1
        · rw [max_eq_left h]; split_ifs <;> simp
      · rcases Finset.mem_insert.mp hi with rfl | hi
        · rw [if_pos hpi]; exact le_max_left _ _
        · exact (ih.2 i hi hpi).trans (le_max_right _ _)
  obtain ⟨i, hi⟩ := hp
  obtain ⟨h1, h2⟩ := key Finset.univ
  have h3 := h2 i (Finset.mem_univ i) hi
  generalize (Finset.univ.fold max (⊥ : EReal) fun i => if p i = true then (x i : EReal) else ⊥) = M at h1 h3 ⊢
  induction M using EReal.rec with
  | bot => simp at h3
  | coe r => exact ⟨r, rfl⟩
  | top => exact absurd rfl h1

/-- The unshifted softmax average is the shifted one: exponentials of finite scores under a mask that admits one at least,
    their weighted sum divided once at the end, against weights shifted by the largest score and divided one by one. -/
theorem softmax_avg {ι : Type} [Fintype ι] (x : ι → ℝ) (p : ι → Bool) (hp : ∃ i, p i = true) (v : ι → EReal) :
    Ideal.div (∑ i, Ideal.exp (x i : EReal) * (if p i = true then 1 else 0) * v i)
        (∑ i, Ideal.exp (x i : EReal) * (if p i = true then 1 else 0))
      = ∑ i, v i * Ideal.div
          (Ideal.exp ((if p i = true then (x i : EReal) else ⊥)
            - Finset.univ.fold max (⊥ : EReal) fun i => if p i = true then (x i : EReal) else ⊥))
          (∑ i, Ideal.exp ((if p i = true then (x i : EReal) else ⊥)
            - Finset.univ.fold max (⊥ : EReal) fun i => if p i = true then (x i : EReal) else ⊥)) := by
  classical
  obtain ⟨M, hM⟩ := max_real x p hp
  rw [hM]
  set e : ι → ℝ := fun i => if p i = true then Real.exp (x i) else 0 with he
  have h0 : ∀ i, 0 ≤ e i := fun i => by simp only [he]; split_ifs; exacts [(Real.exp_pos _).le, le_rfl]
  have h1 : ∀ i, Ideal.exp (x i : EReal) * (if p i = true then 1 else 0) = (e i : EReal) := fun i => by
    simp only [he]
    split_ifs
    · rw [mul_one]; rfl
    · rw [mul_zero]; rfl
  have h2 : ∀ i, Ideal.exp ((if p i = true then (x i : EReal) else ⊥) - (M : EReal)) = ((e i * Real.exp (-M) : ℝ) : EReal) := fun i => by
    simp only [he]
    split_ifs
    · rw [← EReal.coe_sub, ← Real.exp_add, ← sub_eq_add_neg]; rfl
    · rw [EReal.bot_sub, zero_mul]; rfl
  simp only [h1, h2]
  obtain ⟨i₀, hi₀⟩ := hp
  have hS : 0 < ∑ i, e i := Finset.sum_pos' (fun i _ => h0 i) ⟨i₀, Finset.mem_univ _, by simp only [he, if_pos hi₀]; exact Real.exp_pos _⟩
  have hM0 : Real.exp (-M) ≠ 0 := (Real.exp_pos _).ne'
  have hS' : (∑ i, e i * Real.exp (-M)) ≠ 0 := by rw [← Finset.sum_mul]; exact mul_ne_zero hS.ne' hM0
  rw [← coe_sum', ← coe_sum', Ideal.div_coe hS.ne', sum_mul_coe _ _ (one_div_nonneg.mpr hS.le)]
  refine Finset.sum_congr rfl fun i _ => ?_
  rw [Ideal.div_coe hS', mul_comm (e i : EReal), mul_assoc, ← EReal.coe_mul, ← EReal.coe_mul]
  congr 2
  rw [← Finset.sum_mul]
  field_simp

end Cert.KProof

end
-- ==== Proof.Bridge.lean ====
/-
# One row of the kernel's result is the reference's row
-/
module

public import proofs.«01_k».proof.Proof.RefAt
public import proofs.«01_k».proof.Proof.HeadsAt
public import proofs.«01_k».proof.Proof.Softmax

@[expose] public section

set_option maxRecDepth 16384

noncomputable section

namespace Cert.Bridge

open Idealize.ShloMosaic Idealize.ShloMosaic.TcCoe
open Cert.KProof Cert.RProof

/-- Key `n` of device `d`'s block, among all keys. -/
def key (d : Fin 4) (n : Fin 256) : Fin 1024 := ⟨256 * d.val + n.val, by omega⟩

/-- A sum over the slots, each with a device's keys, is the sum over all keys, in whatever order the slots stand. -/
theorem sum_slots (σ : Fin 4 → Fin 4) (hσ : Function.Bijective σ) (f : Fin 1024 → EReal) :
    ∑ s : Fin 4, ∑ n : Fin 256, f (key (σ s) n) = ∑ j : Fin 1024, f j := by
  refine ((Equiv.ofBijective σ hσ).sum_comp (fun d => ∑ n : Fin 256, f (key d n))).trans ?_
  rw [← Fintype.sum_prod_type']
  refine Fintype.sum_equiv (finProdFinEquiv (m := 4) (n := 256)) _ _ fun p => congrArg f (Fin.ext ?_)
  show 256 * p.1.val + p.2.val = p.2.val + 256 * p.1.val
  omega

/-- The slots of every device hold all four devices' blocks. -/
theorem ord_bij (c : Fin 4) : Function.Bijective (ord c) := by
  revert c
  decide +kernel

/-- The scale is a real number. -/
theorem scale_real : ∃ κ : ℝ, Ideal.ofBits .f32 0x3E000000#32 = (κ : EReal) := by
  refine ⟨1 / 8, ?_⟩
  simp [Ideal.ofBits, Ideal.ieee]
  rw [← EReal.coe_mul]
  norm_num

/-- The reals' score: the query's projection times the key, scaled. -/
def scoreR (x : Fin 2 → Fin 1024 → Fin 512 → ℝ) (w : Fin 512 → Fin 256 → ℝ) (k : Fin 2 → Fin 1024 → Fin 4 → Fin 64 → ℝ)
    (κ : ℝ) (b : Fin 2) (h : Fin 4) (i j : Fin 1024) : ℝ :=
  (∑ d : Fin 64, (∑ e : Fin 512, x b i e * w e ⟨h.val * 64 + d.val, by omega⟩) * k b j h d) * κ

section

variable (x' : FVec Ideal Cert.ReferenceIdeal.S2x1024x512 .bf16) (w' : FVec Ideal Cert.ReferenceIdeal.S512x256 .bf16)
  (k' v' : FVec Ideal Cert.ReferenceIdeal.S2x1024x4x64 .bf16) (wo' : FVec Ideal Cert.ReferenceIdeal.S256x512 .bf16)
  (x : Fin 2 → Fin 1024 → Fin 512 → ℝ) (w : Fin 512 → Fin 256 → ℝ) (k : Fin 2 → Fin 1024 → Fin 4 → Fin 64 → ℝ) (κ : ℝ)
  (hx : ∀ b i e, x' (ix3 b i e) = ((x b i e : ℝ) : EReal)) (hw : ∀ e l, w' (ix2 e l) = ((w e l : ℝ) : EReal))
  (hk : ∀ b j h d, k' (ix4 b j h d) = ((k b j h d : ℝ) : EReal)) (hκ : Ideal.ofBits .f32 0x3E000000#32 = (κ : EReal))

include hx hw hk hκ

/-- With finite inputs the reference's scores are real where a query attends to a key. -/
theorem refScores_real (b : Fin 2) (h : Fin 4) (i j : Fin 1024) :
    refScores x' w' k' (ix4 b h i j)
      = if allow (i.val / 64) (j.val / 64) = true then ((scoreR x w k κ b h i j : ℝ) : EReal) else ⊥ := by
  rw [refScores_apply, hκ]
  simp only [hx, hw, hk, ← EReal.coe_mul, ← coe_sum']
  rfl

/-- A row of the kernel's result, of the blocks it reads, is the reference's row. -/
theorem row_eq (c : Fin 4) (b : Fin 2) (r : Fin 256) (z : Fin 1) (l : Fin 512)
    (q : FVec Ideal Cert.KernelIdeal.S256x256 .bf16) (ks vs : Fin 4 → FVec Ideal Cert.KernelIdeal.S256x256 .bf16)
    (mk : Fin 4 → FVec Ideal Cert.KernelIdeal.S256x256 .f32) (wo : FVec Ideal Cert.KernelIdeal.S256x512 .bf16)
    (hq : ∀ y, q (ix2 r y) = (∑ e : Fin 512, x' (ix3 b (key c r) e) * w' (ix2 e y)) * Ideal.ofBits .f32 0x3E000000#32)
    (hks : ∀ s n (y : Fin 256), ks s (ix2 n y) = k' (ix4 b (key (ord c s) n) ⟨y.val / 64, by omega⟩ ⟨y.val % 64, by omega⟩))
    (hvs : ∀ s n (y : Fin 256), vs s (ix2 n y) = v' (ix4 b (key (ord c s) n) ⟨y.val / 64, by omega⟩ ⟨y.val % 64, by omega⟩))
    (hmk : ∀ s n, mk s (ix2 r n) = if allow (4 * c.val + r.val / 64) (4 * (ord c s).val + n.val / 64) = true then (1 : EReal) else 0)
    (hwo : ∀ y, wo (ix2 y l) = wo' (ix2 y l)) :
    rowH q ks vs mk wo (ix3 z r l) = refOut (refW (refExp (refScores x' w' k'))) v' wo' (ix3 b (key c r) l) := by
  rw [rowH_apply, ref_apply]
  refine Finset.sum_congr rfl fun y _ => ?_
  rw [hwo]
  refine congrArg (· * _) ?_
  simp only [refScores_real x' w' k' x w k κ hx hw hk hκ]
  have hp : ∃ j : Fin 1024, allow ((key c r).val / 64) (j.val / 64) = true := ⟨0, by simp [allow]⟩
  rw [← softmax_avg (fun j : Fin 1024 => scoreR x w k κ b ⟨y.val / 64, by omega⟩ (key c r) j)
    (fun j => allow ((key c r).val / 64) (j.val / 64)) hp
    (fun j => v' (ix4 b j ⟨y.val / 64, by omega⟩ ⟨y.val % 64, by omega⟩))]
  have he : ∀ s n, expAt q ks mk r y s n
      = Ideal.exp ((scoreR x w k κ b ⟨y.val / 64, by omega⟩ (key c r) (key (ord c s) n) : ℝ) : EReal)
        * (if allow ((key c r).val / 64) ((key (ord c s) n).val / 64) = true then 1 else 0) := by
    intro s n
    have h1 : (key c r).val / 64 = 4 * c.val + r.val / 64 := by show (256 * c.val + r.val) / 64 = _; omega
    have h2 : (key (ord c s) n).val / 64 = 4 * (ord c s).val + n.val / 64 := by
      show (256 * (ord c s).val + n.val) / 64 = _; omega
    unfold expAt
    rw [hmk, h1, h2]
    refine congrArg (fun t => Ideal.exp t * _) ?_
    have h3 : ∀ d : Fin 64, (⟨(64 * (y.val / 64) + d.val) / 64, by omega⟩ : Fin 4) = ⟨y.val / 64, by omega⟩ :=
      fun d => Fin.ext (by show (64 * (y.val / 64) + d.val) / 64 = y.val / 64; omega)
    have h4 : ∀ d : Fin 64, (⟨(64 * (y.val / 64) + d.val) % 64, by omega⟩ : Fin 64) = d :=
      fun d => Fin.ext (by show (64 * (y.val / 64) + d.val) % 64 = d.val; omega)
    simp only [hq, hks, h3, h4, hx, hw, hk, hκ, ← EReal.coe_mul, ← coe_sum']
    refine congrArg _ ?_
    unfold scoreR
    rw [Finset.sum_mul]
    refine Finset.sum_congr rfl fun d _ => ?_
    have h5 : (⟨64 * (y.val / 64) + d.val, by omega⟩ : Fin 256) = ⟨y.val / 64 * 64 + d.val, by omega⟩ := Fin.ext (by show 64 * (y.val / 64) + d.val = y.val / 64 * 64 + d.val; omega)
    simp only [h5]
    ring
  unfold headAt
  simp only [he, hvs]
  rw [sum_slots (ord c) (ord_bij c) (fun j => Ideal.exp ((scoreR x w k κ b ⟨y.val / 64, by omega⟩ (key c r) j : ℝ) : EReal)
        * (if allow ((key c r).val / 64) (j.val / 64) = true then 1 else 0) * v' (ix4 b j ⟨y.val / 64, by omega⟩ ⟨y.val % 64, by omega⟩)),
    sum_slots (ord c) (ord_bij c) (fun j => Ideal.exp ((scoreR x w k κ b ⟨y.val / 64, by omega⟩ (key c r) j : ℝ) : EReal)
        * (if allow ((key c r).val / 64) (j.val / 64) = true then 1 else 0))]

end

end Cert.Bridge

end
-- ==== Proof.Value.lean ====
/-
# The kernel's result is the reference's block
-/
module

public import proofs.«01_k».proof.Defs
public import proofs.«01_k».proof.Proof.Bridge
public import proofs.«01_k».proof.Proof.Blocks

@[expose] public section

set_option maxRecDepth 16384

noncomputable section

namespace Cert.Bridge

open Idealize.ShloMosaic Idealize.ShloMosaic.TcCoe
open Cert.KProof Cert.RProof

/-- The precondition's side conditions hold. -/
theorem preFacts : Cert.Pre_finite_scores_KernelIdeal.Facts := ⟨by decide, by decide, by decide, by decide⟩

attribute [local instance] preFacts

/-- An extended real whose absolute value is less than infinity is real. -/
theorem real_of_lt (y : EReal) (h : FloatOps.cmpf (F := Ideal) (φ := .f32) .olt (FloatOps.hostAbsf (F := Ideal) (φ := .f32) y) (Ideal.ofBits .f32 0x7F800000#32) = 1#1) :
    ∃ r : ℝ, y = (r : EReal) := by
  have h1 : max y (-y) < ⊤ := by
    simp [Ideal.ofBits, Ideal.ieee] at h
    change Ideal.cmp .olt (max y (-y)) ⊤ = 1#1 at h
    by_contra hn
    simp [Ideal.cmp, hn] at h
  induction y with
  | bot => simp at h1
  | top => simp at h1
  | coe r => exact ⟨r, rfl⟩

section

variable (x : FVec Ideal Cert.Pre_finite_scores_KernelIdeal.S2x256x512 .bf16) (w : FVec Ideal Cert.Pre_finite_scores_KernelIdeal.S512x256 .bf16)
  (k v : FVec Ideal Cert.Pre_finite_scores_KernelIdeal.S2x256x4x64 .bf16) (wo : FVec Ideal Cert.Pre_finite_scores_KernelIdeal.S256x512 .bf16)

/-- The precondition says that a device's rows are real, -/
theorem pre_x (h : (Cert.Pre_finite_scores_KernelIdeal.fn (F := Ideal) x w k v wo).1 = fun _ => 1#1) (b : Fin 2) (r : Fin 256) (e : Fin 512) :
    ∃ y : ℝ, x (ix3 b r e) = (y : EReal) := by
  refine real_of_lt _ (Eq.trans ?_ (congrFun h (ix3 b r e)))
  pointwise [Cert.Pre_finite_scores_KernelIdeal.fn]

/-- the query weights, -/
theorem pre_w (h : (Cert.Pre_finite_scores_KernelIdeal.fn (F := Ideal) x w k v wo).2.1 = fun _ => 1#1) (e : Fin 512) (l : Fin 256) :
    ∃ y : ℝ, w (ix2 e l) = (y : EReal) := by
  refine real_of_lt _ (Eq.trans ?_ (congrFun h (ix2 e l)))
  pointwise [Cert.Pre_finite_scores_KernelIdeal.fn]

/-- and the device's keys. -/
theorem pre_k (h : (Cert.Pre_finite_scores_KernelIdeal.fn (F := Ideal) x w k v wo).2.2 = fun _ => 1#1) (b : Fin 2) (n : Fin 256) (a : Fin 4) (d : Fin 64) :
    ∃ y : ℝ, k (ix4 b n a d) = (y : EReal) := by
  refine real_of_lt _ (Eq.trans ?_ (congrFun h (ix4 b n a d)))
  pointwise [Cert.Pre_finite_scores_KernelIdeal.fn]

end

/-- A device's block of an array of rows, at an element. -/
theorem block3 {α : Type} (c : Fin 4) (f : Shape.Idx ⟨3, ![2, 1024, 512]⟩ → α) (b : Fin 2) (r : Fin 256) (e : Fin 512) :
    Layout.block ⟨3, ![2, 256, 512]⟩ ⟨3, ![2, 1024, 512]⟩ 1 4 c f (by decide) (ix3 b r e) = f (ix3 b (key c r) e) := by
  refine congrArg f (funext fun a => Fin.ext ?_)
  rw [Layout.Tiles.idx_val]
  fin_cases a
  · rfl
  · show c.val * 256 + r.val = 256 * c.val + r.val; omega
  · rfl

/-- A device's block of the keys or the values, at an element. -/
theorem block4 {α : Type} (c : Fin 4) (f : Shape.Idx ⟨4, ![2, 1024, 4, 64]⟩ → α) (b : Fin 2) (n : Fin 256) (h : Fin 4) (d : Fin 64) :
    Layout.block ⟨4, ![2, 256, 4, 64]⟩ ⟨4, ![2, 1024, 4, 64]⟩ 1 4 c f (by decide) (ix4 b n h d) = f (ix4 b (key c n) h d) := by
  refine congrArg f (funext fun a => Fin.ext ?_)
  rw [Layout.Tiles.idx_val]
  fin_cases a
  · rfl
  · show c.val * 256 + n.val = 256 * c.val + n.val; omega
  · rfl
  · rfl

/-- Every position is some device's. -/
theorem key_surj (j : Fin 1024) : ∃ (c : Fin 4) (n : Fin 256), key c n = j :=
  ⟨⟨j.val / 256, by omega⟩, ⟨j.val % 256, by omega⟩, Fin.ext (by show 256 * (j.val / 256) + j.val % 256 = j.val; omega)⟩

section

open Cert.KernelIdeal Cert.KernelIdeal.Gen

variable (m : (ℓ : Loc nD τ sig) → Buf (Elt Ideal) ℓ)
  (x' : FVec Ideal Cert.ReferenceIdeal.S2x1024x512 .bf16) (w' : FVec Ideal Cert.ReferenceIdeal.S512x256 .bf16)
  (k' v' : FVec Ideal Cert.ReferenceIdeal.S2x1024x4x64 .bf16) (wo' : FVec Ideal Cert.ReferenceIdeal.S256x512 .bf16)

/-- With finite rows, query weights and keys, the kernel's result on device `c` is block `c` of the reference's. -/
theorem res_block (hpre : Cert.Pre_KernelIdeal_finite_scores_KernelIdeal m)
    (h0 : ∀ c : Dev nD, m ((c.tc : Thread nD τ).loc main_arg0) = Layout.block ⟨3, ![2, 256, 512]⟩ ⟨3, ![2, 1024, 512]⟩ 1 4 c x')
    (h1 : ∀ c : Dev nD, m ((c.tc : Thread nD τ).loc main_arg1) = w')
    (h2 : ∀ c : Dev nD, m ((c.tc : Thread nD τ).loc main_arg2) = Layout.block ⟨4, ![2, 256, 4, 64]⟩ ⟨4, ![2, 1024, 4, 64]⟩ 1 4 c k')
    (h3 : ∀ c : Dev nD, m ((c.tc : Thread nD τ).loc main_arg3) = Layout.block ⟨4, ![2, 256, 4, 64]⟩ ⟨4, ![2, 1024, 4, 64]⟩ 1 4 c v')
    (h4 : ∀ c : Dev nD, m ((c.tc : Thread nD τ).loc main_arg4) = wo') (c : Dev nD) :
    res m c = Layout.block ⟨3, ![2, 256, 512]⟩ ⟨3, ![2, 1024, 512]⟩ 1 4 c (refOut (refW (refExp (refScores x' w' k'))) v' wo') := by
  have hX0 : ∀ (c : Dev nD) b r e, X0 m c (ix3 b r e) = x' (ix3 b (key c r) e) := fun c b r e => by
    rw [X0_eq]; exact (congrFun (h0 c) (ix3 b r e)).trans (block3 c x' b r e)
  have hX1 : ∀ (c : Dev nD), X1 m c = w' := fun c => (X1_eq m c).trans (h1 c)
  have hX4 : ∀ (c : Dev nD), X4 m c = wo' := fun c => (X4_eq m c).trans (h4 c)
  have hX2 : ∀ (c : Dev nD) b n (y : Fin 256), X2 m c (ix3 b n y) = k' (ix4 b (key c n) ⟨y.val / 64, by omega⟩ ⟨y.val % 64, by omega⟩) :=
    fun c b n y => by
      rw [X2_apply]; exact (congrFun (h2 c) (ix4 b n ⟨y.val / 64, by omega⟩ ⟨y.val % 64, by omega⟩)).trans (block4 c k' b n _ _)
  have hX3 : ∀ (c : Dev nD) b n (y : Fin 256), X3 m c (ix3 b n y) = v' (ix4 b (key c n) ⟨y.val / 64, by omega⟩ ⟨y.val % 64, by omega⟩) :=
    fun c b n y => by
      rw [X3_apply]; exact (congrFun (h3 c) (ix4 b n ⟨y.val / 64, by omega⟩ ⟨y.val % 64, by omega⟩)).trans (block4 c v' b n _ _)
  have hx : ∀ b i e, ∃ y : ℝ, x' (ix3 b i e) = (y : EReal) := fun b i e => by
    obtain ⟨d, n, rfl⟩ := key_surj i
    obtain ⟨y, hy⟩ := pre_x _ _ _ _ _ (hpre d).1 b n e
    exact ⟨y, ((congrFun (h0 d) (ix3 b n e)).trans (block3 d x' b n e)).symm.trans hy⟩
  have hw : ∀ e l, ∃ y : ℝ, w' (ix2 e l) = (y : EReal) := fun e l => by
    obtain ⟨y, hy⟩ := pre_w _ _ _ _ _ (hpre 0).2.1 e l
    exact ⟨y, (congrFun (h1 0) (ix2 e l)).symm.trans hy⟩
  have hk : ∀ b j a d, ∃ y : ℝ, k' (ix4 b j a d) = (y : EReal) := fun b j a d => by
    obtain ⟨q, n, rfl⟩ := key_surj j
    obtain ⟨y, hy⟩ := pre_k _ _ _ _ _ (hpre q).2.2 b n a d
    exact ⟨y, ((congrFun (h2 q) (ix4 b n a d)).trans (block4 q k' b n a d)).symm.trans hy⟩
  choose x hx using hx
  choose w hw using hw
  choose k hk using hk
  obtain ⟨κ, hκ⟩ := scale_real
  have hwo : ∀ (y : Fin 256) (l : Fin 512), v117 m c (ix2 y l) = wo' (ix2 y l) := fun y l => by
    unfold v117
    rw [v116_eq, hX4]
    pointwise [k0_pay6]
  rw [res_eq]
  refine funext fun i : S2x256x512.Idx => ?_
  idx_vars i
  refine Eq.trans ?_ (block3 c _ i0 i1 i2).symm
  fin_cases i0
  · show out0 m c (ix3 0 i1 i2) = _
    rw [out0_eq]
    refine row_eq x' w' k' v' wo' x w k κ hx hw hk hκ c 0 i1 0 i2 _ _ _ _ _ (fun y => ?_) (fun s n y => ?_) (fun s n y => ?_) (fun s n => mks_apply m c s i1 n) (fun y => hwo y i2)
    · unfold v123
      rw [v114_eq, hX1, pay7_apply]
      simp only [v118_apply, hX0]
    · rw [ks0_apply, hX2]
    · rw [vs0_apply, hX3]
  · show out1 m c (ix3 0 i1 i2) = _
    rw [out1_eq]
    refine row_eq x' w' k' v' wo' x w k κ hx hw hk hκ c 1 i1 0 i2 _ _ _ _ _ (fun y => ?_) (fun s n y => ?_) (fun s n y => ?_) (fun s n => mks_apply m c s i1 n) (fun y => hwo y i2)
    · unfold v129
      rw [v114_eq, hX1, pay8_apply]
      simp only [v124_apply, hX0]
    · rw [ks1_apply, hX2]
    · rw [vs1_apply, hX3]

end

end Cert.Bridge

end
-- ==== Proof.lean ====
/-
# The certificate of the sharded block-sparse attention kernel
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- Both printed programs have the same text, so at the machine's float values they have the same bodies. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg (fun f => Defs.onTc f) ?_
  funext l x
  fin_cases l
  rfl
/-- So they have the same bodies at every call. -/
theorem defs_eq : Cert.Kernel.defs (F := Bits) = Cert.KernelIdeal.defs (F := Bits) := by
  unfold Cert.Kernel.defs Cert.KernelIdeal.defs
  rw [defs₀_eq]
  rfl

/-- The printed kernel, at the machine's float values: it terminates, leaves its arguments as they were, and every counter is zero. -/
theorem frame_kernel : Cert.quiescent_Kernel := fun m ρ _ => by
  rw [defs_eq]
  exact (θ_run Cert.KernelIdeal.defs _ _).mono (fun _ h => ⟨fun c => (h.1 c).2, h.2⟩) (Cert.KProof.run_main (F := Bits) m ρ)

/-- The same of the kernel over the reals. -/
theorem frame_kernelIdeal : Cert.quiescent_KernelIdeal := fun m ρ _ =>
  (θ_run Cert.KernelIdeal.defs _ _).mono (fun _ h => ⟨fun c => (h.1 c).2, h.2⟩) (Cert.KProof.run_main (F := Ideal) m ρ)

/-- The same of the reference, which has no counter. -/
theorem frame_referenceIdeal : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

/-- The side conditions of the precondition read at the reference's shapes. -/
theorem preFacts' : Cert.Pre_finite_scores_ReferenceIdeal.Facts := ⟨by decide, by decide, by decide, by decide⟩

/-- Over the reals, with finite rows, query weights and keys, each device's result is its block of the reference's. -/
theorem algebraic : Cert.algebraic_KernelIdeal_ReferenceIdeal_pre_finite_scores_KernelIdeal
    (hPre_finite_scores_KernelIdeal := Cert.Bridge.preFacts) := fun m g m' g' hpre hin =>
  ⟨Cert.ReferenceIdeal.Value.res_main_v49 m' 0,
    (θ_run Cert.KernelIdeal.defs _ _).mono
      (fun _ h c => ⟨((h.1 c).1.trans (Cert.Bridge.res_block m _ _ _ _ _ hpre (fun c => (hin c).1) (fun c => (hin c).2.1)
        (fun c => (hin c).2.2.1) (fun c => (hin c).2.2.2.1) (fun c => (hin c).2.2.2.2) c)).trans
          (congrArg (fun v => Layout.block ⟨3, ![2, 256, 512]⟩ ⟨3, ![2, 1024, 512]⟩ 1 4 c v) (Cert.RProof.res_stages m' 0).symm),
        (h.1 c).2⟩)
      (Cert.KProof.run_main (F := Ideal) m g),
    (θ_run Cert.ReferenceIdeal.defs _ _).mono (fun _ h => h 0) (Cert.ReferenceIdeal.Value.run (F := Ideal) m' g')⟩

/-- Everything that the certificate claims. -/
theorem claim : Cert.Claim := ⟨Cert.Kernel.Gen.facts, Cert.KernelIdeal.Gen.facts, Cert.ReferenceIdeal.Gen.facts,
  Cert.Bridge.preFacts, preFacts', frame_kernel, frame_kernelIdeal, fun m g _ => frame_kernelIdeal m g trivial,
  frame_referenceIdeal, fun m g _ => frame_referenceIdeal m g trivial, trivial, algebraic⟩

end Cert.Proof

end
